-- ==== Defs.lean ====
def Pre_Kernel (m : (ℓ : Loc Cert.Kernel.nD Cert.Kernel.τ Cert.Kernel.sig) → Buf (Elt Bits) ℓ) : Prop :=
  True

def Pre_Kernel_memory_words_zero [hPre_memory_words_zero : Cert.Pre_memory_words_zero.Facts] (m : (ℓ : Loc Cert.Kernel.nD Cert.Kernel.τ Cert.Kernel.sig) → Buf (Elt Bits) ℓ) : Prop :=
  ∀ c : Dev Cert.Kernel.nD,
    (Cert.Pre_memory_words_zero.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_memory_is_zero [hPre_memory_is_zero : Cert.Pre_memory_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_memory_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_memory_is_zero [hPre_memory_is_zero : Cert.Pre_memory_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_memory_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_memory_words_zero : Cert.Pre_memory_words_zero.Facts] (m : (ℓ : Loc Cert.Reference.nD Cert.Reference.τ Cert.Reference.sig) → Buf (Elt Bits) ℓ) : Prop :=
  ∀ c : Dev Cert.Reference.nD,
    (Cert.Pre_memory_words_zero.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_memory_words_zero [hKernel : Cert.Kernel.Facts] [hPre_memory_words_zero : Cert.Pre_memory_words_zero.Facts] : Prop :=
  ∀ (m : (ℓ : Loc Cert.Kernel.nD Cert.Kernel.τ Cert.Kernel.sig) → Buf (Elt Bits) ℓ) (g : Dev Cert.Kernel.nD → PrngReg), Pre_Kernel_memory_words_zero m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_memory_is_zero [hKernelIdeal : Cert.KernelIdeal.Facts] [hPre_memory_is_zero : Cert.Pre_memory_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_memory_is_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_memory_is_zero [hReferenceIdeal : Cert.ReferenceIdeal.Facts] [hPre_memory_is_zero : Cert.Pre_memory_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_memory_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_memory_words_zero : Cert.Pre_memory_words_zero.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def bitexact_Kernel_Reference_pre_memory_words_zero [hKernel : Cert.Kernel.Facts] [hReference : Cert.Reference.Facts] [hPre_memory_words_zero : Cert.Pre_memory_words_zero.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_memory_words_zero m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal_pre_memory_is_zero [hKernelIdeal : Cert.KernelIdeal.Facts] [hReferenceIdeal : Cert.ReferenceIdeal.Facts] [hPre_memory_is_zero : Cert.Pre_memory_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_memory_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_memory_words_zero : Cert.Pre_memory_words_zero.Facts) (hPre_memory_is_zero : Cert.Pre_memory_is_zero.Facts),
    quiescent_Kernel (hKernel := hKernel)
    ∧ quiescent_Kernel_pre_memory_words_zero (hKernel := hKernel) (hPre_memory_words_zero := hPre_memory_words_zero)
    ∧ quiescent_KernelIdeal (hKernelIdeal := hKernelIdeal)
    ∧ quiescent_KernelIdeal_pre_memory_is_zero (hKernelIdeal := hKernelIdeal) (hPre_memory_is_zero := hPre_memory_is_zero)
    ∧ quiescent_ReferenceIdeal (hReferenceIdeal := hReferenceIdeal)
    ∧ quiescent_ReferenceIdeal_pre_memory_is_zero (hReferenceIdeal := hReferenceIdeal) (hPre_memory_is_zero := hPre_memory_is_zero)
    ∧ quiescent_Reference (hReference := hReference) (hPre_memory_words_zero := hPre_memory_words_zero)
    ∧ preserves_Kernel_KernelIdeal
    ∧ bitexact_Kernel_Reference_pre_memory_words_zero (hKernel := hKernel) (hReference := hReference) (hPre_memory_words_zero := hPre_memory_words_zero)
    ∧ algebraic_KernelIdeal_ReferenceIdeal_pre_memory_is_zero (hKernelIdeal := hKernelIdeal) (hReferenceIdeal := hReferenceIdeal) (hPre_memory_is_zero := hPre_memory_is_zero)
-- ==== Pre_memory_is_zero.lean ====
abbrev S16x2048x1024 : Shape := ⟨3, ![16, 2048, 1024]⟩
abbrev S131072x1024 : Shape := ⟨2, ![131072, 1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel

variable [Facts]

def fn {F : FTy → Type} [FloatOps F] (main_arg0 : FVec F S16x2048x1024 .f32) (main_arg1 : FVec F S131072x1024 .f32) : IVec S_ 1 :=
  let main_cst : FVec F S_ .f32 := constant S_ .f32 0x00000000#32
  let main_v0 : FVec F S131072x1024 .f32 := broadcastInDim S131072x1024 ![] bcast_S_S131072x1024 main_cst
  let main_v1 : IVec S131072x1024 1 := cmpf .oeq main_arg1 main_v0
  let main_c : IVec S_ 1 := constantI S_ 1 1#1
  let main_v2 : IVec S_ 1 := (fun x v => Host.reduce IntOp.andi x v reducesTo_S131072x1024_S_d0_1 h_S_) main_v1 main_c
  main_v2
-- ==== Pre_memory_words_zero.lean ====
abbrev S16x2048x1024 : Shape := ⟨3, ![16, 2048, 1024]⟩
abbrev S131072x1024 : Shape := ⟨2, ![131072, 1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel

variable [Facts]

def fn {F : FTy → Type} [BitOps F] (main_arg0 : FVec F S16x2048x1024 .f32) (main_arg1 : FVec F S131072x1024 .f32) : IVec S_ 1 :=
  let main_v0 : IVec S131072x1024 32 := bitcastToInt main_arg1
  let main_c : IVec S_ 32 := constantI S_ 32 0#32
  let main_v1 : IVec S131072x1024 32 := broadcastInDim S131072x1024 ![] bcast_S_S131072x1024 main_c
  let main_v2 : IVec S131072x1024 1 := cmpi .eq main_v0 main_v1
  let main_c_0 : IVec S_ 1 := constantI S_ 1 1#1
  let main_v3 : IVec S_ 1 := (fun x v => Host.reduce IntOp.andi x v reducesTo_S131072x1024_S_d0_1 h_S_) main_v2 main_c_0
  main_v3
-- ==== Kernel.lean ====
abbrev S16x2048x1024 : Shape := ⟨3, ![16, 2048, 1024]⟩
abbrev S131072x1024 : Shape := ⟨2, ![131072, 1024]⟩
abbrev S32768x1024 : Shape := ⟨2, ![32768, 1024]⟩
abbrev S32x1024 : Shape := ⟨2, ![32, 1024]⟩
abbrev S_ : Shape := ⟨0, ![]⟩
abbrev S2048x1024 : Shape := ⟨2, ![2048, 1024]⟩

abbrev nBuf : Table → Nat
  | .hbm => 5
  | .local .tc .vmem => 2
  | .local .scVector .vmem => 3
  | _ => 0

abbrev bufTy : (tb : Table) → Fin (nBuf tb) → BufTy
  | .hbm, ⟨0, _⟩ => ⟨S16x2048x1024, .f32⟩
  | .hbm, ⟨1, _⟩ => ⟨S131072x1024, .f32⟩
  | .hbm, ⟨2, _⟩ => ⟨S32768x1024, .f32⟩
  | .hbm, ⟨3, _⟩ => ⟨S131072x1024, .f32⟩
  | .hbm, ⟨4, _⟩ => ⟨S131072x1024, .f32⟩
  | .local .tc .vmem, ⟨0, _⟩ => ⟨S2048x1024, .f32⟩
  | .local .tc .vmem, ⟨1, _⟩ => ⟨S2048x1024, .f32⟩
  | .local .scVector .vmem, ⟨0, _⟩ => ⟨S32x1024, .f32⟩
  | .local .scVector .vmem, ⟨1, _⟩ => ⟨S32x1024, .f32⟩
  | .local .scVector .vmem, ⟨2, _⟩ => ⟨S32x1024, .f32⟩
  | _, _ => ⟨S16x2048x1024, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_cond1 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c3_i32 : BitVec 32 := 3#32
  let v15 : BitVec 1 := Scalar.cmpi .sge arg13 c3_i32
  let v16 : BitVec 32 := Scalar.extui v15
  let c0_i32_12 : BitVec 32 := 0#32
  let v17 : BitVec 1 := Scalar.cmpi .ne v16 c0_i32_12
  v17

def k0_cond2 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c3_i32_24 : BitVec 32 := 3#32
  let c0_i32_25 : BitVec 32 := 0#32
  let v34 : BitVec 1 := Scalar.cmpi .eq c3_i32_24 c0_i32_25
  let c1_i32_26 : BitVec 32 := 1#32
  let v35 : BitVec 32 := Scalar.select v34 c1_i32_26 c3_i32_24
  let v36 : BitVec 32 := Scalar.remsi arg13 v35
  let c0_i32_28 : BitVec 32 := 0#32
  let v38 : BitVec 1 := Scalar.cmpi .slt v36 c0_i32_28
  let c0_i32_29 : BitVec 32 := 0#32
  let v39 : BitVec 1 := Scalar.cmpi .slt v35 c0_i32_29
  let v40 : BitVec 1 := Scalar.xori v38 v39
  let c0_i32_27 : BitVec 32 := 0#32
  let v37 : BitVec 1 := Scalar.cmpi .ne v36 c0_i32_27
  let v41 : BitVec 1 := Scalar.andi v40 v37
  let v42 : BitVec 32 := Scalar.addi v36 v35
  let v43 : BitVec 32 := Scalar.select v41 v42 v36
  let c0_i32_30 : BitVec 32 := 0#32
  let v44 : BitVec 32 := Scalar.maxsi v43 c0_i32_30
  let c2_i32_31 : BitVec 32 := 2#32
  let v45 : BitVec 32 := Scalar.minsi v44 c2_i32_31
  let c0_i32_32 : BitVec 32 := 0#32
  let v46 : BitVec 1 := Scalar.cmpi .ne v45 c0_i32_32
  v46

def k0_cond3 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c3_i32_24 : BitVec 32 := 3#32
  let c0_i32_25 : BitVec 32 := 0#32
  let v34 : BitVec 1 := Scalar.cmpi .eq c3_i32_24 c0_i32_25
  let c1_i32_26 : BitVec 32 := 1#32
  let v35 : BitVec 32 := Scalar.select v34 c1_i32_26 c3_i32_24
  let v36 : BitVec 32 := Scalar.remsi arg13 v35
  let c0_i32_28 : BitVec 32 := 0#32
  let v38 : BitVec 1 := Scalar.cmpi .slt v36 c0_i32_28
  let c0_i32_29 : BitVec 32 := 0#32
  let v39 : BitVec 1 := Scalar.cmpi .slt v35 c0_i32_29
  let v40 : BitVec 1 := Scalar.xori v38 v39
  let c0_i32_27 : BitVec 32 := 0#32
  let v37 : BitVec 1 := Scalar.cmpi .ne v36 c0_i32_27
  let v41 : BitVec 1 := Scalar.andi v40 v37
  let v42 : BitVec 32 := Scalar.addi v36 v35
  let v43 : BitVec 32 := Scalar.select v41 v42 v36
  let c0_i32_30 : BitVec 32 := 0#32
  let v44 : BitVec 32 := Scalar.maxsi v43 c0_i32_30
  let c2_i32_31 : BitVec 32 := 2#32
  let v45 : BitVec 32 := Scalar.minsi v44 c2_i32_31
  let c1_i32_33 : BitVec 32 := 1#32
  let v47 : BitVec 32 := Scalar.subi v45 c1_i32_33
  let c0_i32_34 : BitVec 32 := 0#32
  let v48 : BitVec 1 := Scalar.cmpi .ne v47 c0_i32_34
  v48

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_35 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_35 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_33 : BitVec 32 := 0#32
  ![v2.toNat, 0]
def k0_cond4 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c3_i32_13 : BitVec 32 := 3#32
  let c0_i32_14 : BitVec 32 := 0#32
  let v18 : BitVec 1 := Scalar.cmpi .eq c3_i32_13 c0_i32_14
  let c1_i32_15 : BitVec 32 := 1#32
  let v19 : BitVec 32 := Scalar.select v18 c1_i32_15 c3_i32_13
  let v20 : BitVec 32 := Scalar.remsi arg13 v19
  let c0_i32_17 : BitVec 32 := 0#32
  let v22 : BitVec 1 := Scalar.cmpi .slt v20 c0_i32_17
  let c0_i32_18 : BitVec 32 := 0#32
  let v23 : BitVec 1 := Scalar.cmpi .slt v19 c0_i32_18
  let v24 : BitVec 1 := Scalar.xori v22 v23
  let c0_i32_16 : BitVec 32 := 0#32
  let v21 : BitVec 1 := Scalar.cmpi .ne v20 c0_i32_16
  let v25 : BitVec 1 := Scalar.andi v24 v21
  let v26 : BitVec 32 := Scalar.addi v20 v19
  let v27 : BitVec 32 := Scalar.select v25 v26 v20
  let c0_i32_19 : BitVec 32 := 0#32
  let v28 : BitVec 32 := Scalar.maxsi v27 c0_i32_19
  let c2_i32_20 : BitVec 32 := 2#32
  let v29 : BitVec 32 := Scalar.minsi v28 c2_i32_20
  let c0_i32_21 : BitVec 32 := 0#32
  let v30 : BitVec 1 := Scalar.cmpi .ne v29 c0_i32_21
  v30

def k0_cond5 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c3_i32_13 : BitVec 32 := 3#32
  let c0_i32_14 : BitVec 32 := 0#32
  let v18 : BitVec 1 := Scalar.cmpi .eq c3_i32_13 c0_i32_14
  let c1_i32_15 : BitVec 32 := 1#32
  let v19 : BitVec 32 := Scalar.select v18 c1_i32_15 c3_i32_13
  let v20 : BitVec 32 := Scalar.remsi arg13 v19
  let c0_i32_17 : BitVec 32 := 0#32
  let v22 : BitVec 1 := Scalar.cmpi .slt v20 c0_i32_17
  let c0_i32_18 : BitVec 32 := 0#32
  let v23 : BitVec 1 := Scalar.cmpi .slt v19 c0_i32_18
  let v24 : BitVec 1 := Scalar.xori v22 v23
  let c0_i32_16 : BitVec 32 := 0#32
  let v21 : BitVec 1 := Scalar.cmpi .ne v20 c0_i32_16
  let v25 : BitVec 1 := Scalar.andi v24 v21
  let v26 : BitVec 32 := Scalar.addi v20 v19
  let v27 : BitVec 32 := Scalar.select v25 v26 v20
  let c0_i32_19 : BitVec 32 := 0#32
  let v28 : BitVec 32 := Scalar.maxsi v27 c0_i32_19
  let c2_i32_20 : BitVec 32 := 2#32
  let v29 : BitVec 32 := Scalar.minsi v28 c2_i32_20
  let c1_i32_24 : BitVec 32 := 1#32
  let v34 : BitVec 32 := Scalar.subi v29 c1_i32_24
  let c0_i32_25 : BitVec 32 := 0#32
  let v35 : BitVec 1 := Scalar.cmpi .ne v34 c0_i32_25
  v35

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c32_i32_26 : BitVec 32 := 32#32
  let v36 : BitVec 32 := Scalar.muli arg13 c32_i32_26
  let v37 : BitVec 32 := Scalar.addi v2 v36
  let c0_i32_27 : BitVec 32 := 0#32
  ![v37.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c32_i32_26 : BitVec 32 := 32#32
  let v36 : BitVec 32 := Scalar.muli arg13 c32_i32_26
  let v37 : BitVec 32 := Scalar.addi v2 v36
  let c0_i32_27 : BitVec 32 := 0#32
  ![v37.toNat, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c32_i32_24 : BitVec 32 := 32#32
  let v34 : BitVec 32 := Scalar.muli arg13 c32_i32_24
  let v35 : BitVec 32 := Scalar.addi v2 v34
  let c0_i32_25 : BitVec 32 := 0#32
  ![v35.toNat, 0]
def k0_cond6 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c1_i32_22 : BitVec 32 := 1#32
  let v31 : BitVec 1 := Scalar.cmpi .sge arg13 c1_i32_22
  let v32 : BitVec 32 := Scalar.extui v31
  let c0_i32_23 : BitVec 32 := 0#32
  let v33 : BitVec 1 := Scalar.cmpi .ne v32 c0_i32_23
  v33

def k0_cond7 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c1_i32_24 : BitVec 32 := 1#32
  let v34 : BitVec 32 := Scalar.subi arg13 c1_i32_24
  let c3_i32_25 : BitVec 32 := 3#32
  let c0_i32_26 : BitVec 32 := 0#32
  let v35 : BitVec 1 := Scalar.cmpi .eq c3_i32_25 c0_i32_26
  let c1_i32_27 : BitVec 32 := 1#32
  let v36 : BitVec 32 := Scalar.select v35 c1_i32_27 c3_i32_25
  let v37 : BitVec 32 := Scalar.remsi v34 v36
  let c0_i32_29 : BitVec 32 := 0#32
  let v39 : BitVec 1 := Scalar.cmpi .slt v37 c0_i32_29
  let c0_i32_30 : BitVec 32 := 0#32
  let v40 : BitVec 1 := Scalar.cmpi .slt v36 c0_i32_30
  let v41 : BitVec 1 := Scalar.xori v39 v40
  let c0_i32_28 : BitVec 32 := 0#32
  let v38 : BitVec 1 := Scalar.cmpi .ne v37 c0_i32_28
  let v42 : BitVec 1 := Scalar.andi v41 v38
  let v43 : BitVec 32 := Scalar.addi v37 v36
  let v44 : BitVec 32 := Scalar.select v42 v43 v37
  let c0_i32_34 : BitVec 32 := 0#32
  let v48 : BitVec 32 := Scalar.maxsi v44 c0_i32_34
  let c2_i32_35 : BitVec 32 := 2#32
  let v49 : BitVec 32 := Scalar.minsi v48 c2_i32_35
  let c0_i32_36 : BitVec 32 := 0#32
  let v50 : BitVec 1 := Scalar.cmpi .ne v49 c0_i32_36
  v50

def k0_cond8 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c1_i32_24 : BitVec 32 := 1#32
  let v34 : BitVec 32 := Scalar.subi arg13 c1_i32_24
  let c3_i32_25 : BitVec 32 := 3#32
  let c0_i32_26 : BitVec 32 := 0#32
  let v35 : BitVec 1 := Scalar.cmpi .eq c3_i32_25 c0_i32_26
  let c1_i32_27 : BitVec 32 := 1#32
  let v36 : BitVec 32 := Scalar.select v35 c1_i32_27 c3_i32_25
  let v37 : BitVec 32 := Scalar.remsi v34 v36
  let c0_i32_29 : BitVec 32 := 0#32
  let v39 : BitVec 1 := Scalar.cmpi .slt v37 c0_i32_29
  let c0_i32_30 : BitVec 32 := 0#32
  let v40 : BitVec 1 := Scalar.cmpi .slt v36 c0_i32_30
  let v41 : BitVec 1 := Scalar.xori v39 v40
  let c0_i32_28 : BitVec 32 := 0#32
  let v38 : BitVec 1 := Scalar.cmpi .ne v37 c0_i32_28
  let v42 : BitVec 1 := Scalar.andi v41 v38
  let v43 : BitVec 32 := Scalar.addi v37 v36
  let v44 : BitVec 32 := Scalar.select v42 v43 v37
  let c0_i32_34 : BitVec 32 := 0#32
  let v48 : BitVec 32 := Scalar.maxsi v44 c0_i32_34
  let c2_i32_35 : BitVec 32 := 2#32
  let v49 : BitVec 32 := Scalar.minsi v48 c2_i32_35
  let c1_i32_37 : BitVec 32 := 1#32
  let v51 : BitVec 32 := Scalar.subi v49 c1_i32_37
  let c0_i32_38 : BitVec 32 := 0#32
  let v52 : BitVec 1 := Scalar.cmpi .ne v51 c0_i32_38
  v52

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_39 : BitVec 32 := 0#32
  ![v2.toNat, 0]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c1_i32_33 : BitVec 32 := 1#32
  let v47 : BitVec 32 := Scalar.subi arg13 c1_i32_33
  let c32_i32_41 : BitVec 32 := 32#32
  let v55 : BitVec 32 := Scalar.muli v47 c32_i32_41
  let v56 : BitVec 32 := Scalar.addi v2 v55
  let c0_i32_42 : BitVec 32 := 0#32
  ![v56.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_39 : BitVec 32 := 0#32
  ![v2.toNat, 0]
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c1_i32_32 : BitVec 32 := 1#32
  let v46 : BitVec 32 := Scalar.subi arg13 c1_i32_32
  let c32_i32_41 : BitVec 32 := 32#32
  let v55 : BitVec 32 := Scalar.muli v46 c32_i32_41
  let v56 : BitVec 32 := Scalar.addi v2 v55
  let c0_i32_42 : BitVec 32 := 0#32
  ![v56.toNat, 0]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_37 : BitVec 32 := 0#32
  ![v2.toNat, 0]
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_0 : BitVec 32 := 0#32
  let c1_i32 : BitVec 32 := 1#32
  let arg13 : BitVec 32 := Scf.iv c0_i32_0 c1_i32 k0_t1
  let c1_i32_31 : BitVec 32 := 1#32
  let v45 : BitVec 32 := Scalar.subi arg13 c1_i32_31
  let c32_i32_39 : BitVec 32 := 32#32
  let v53 : BitVec 32 := Scalar.muli v45 c32_i32_39
  let v54 : BitVec 32 := Scalar.addi v2 v53
  let c0_i32_40 : BitVec 32 := 0#32
  ![v54.toNat, 0]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  ![v2.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c992_i32 : BitVec 32 := 992#32
  let v6 : BitVec 32 := Scalar.addi v2 c992_i32
  let c0_i32_4 : BitVec 32 := 0#32
  ![v6.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_6 : BitVec 32 := 0#32
  ![v2.toNat, 0]
abbrev grid1 : Pipeline.Grid := ⟨1, ![48], ![false]⟩

def cc1_transform_1 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x2048x1024 : Shape := ⟨3, ![16, 2048, 1024]⟩
abbrev S131072x1024 : Shape := ⟨2, ![131072, 1024]⟩
abbrev S32768x1024 : Shape := ⟨2, ![32768, 1024]⟩
abbrev S32768 : Shape := ⟨1, ![32768]⟩
abbrev S_ : Shape := ⟨0, ![]⟩
abbrev S32768x1 : Shape := ⟨2, ![32768, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S131072x1024, .f32⟩
  | .hbm, ⟨2, _⟩ => ⟨S32768x1024, .f32⟩
  | .hbm, ⟨3, _⟩ => ⟨S32768, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S_, .i1⟩
  | .hbm, ⟨20, _⟩ => ⟨S32768, .i1⟩
  | .hbm, ⟨21, _⟩ => ⟨S32768, .i1⟩
  | .hbm, ⟨22, _⟩ => ⟨S32768, .i1⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S131072x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩

abbrev nD : Nat := 1
abbrev τ : Topo := Topo.v7x

variable {F : FTy → Type} [FloatOps F]
-- ==== Proof.Common.lean ====
/-
  What the proof's modules share: the SparseCore call as the launch theorem sees it, the resource algebra, the arrays,
  the chunks of 32 rows the subcores copy, and what the copy leaves in the output's first 32768 rows.

  The kernel copies the 32768 × 1024 rows of `hidden` to the first 32768 rows of the 131072 × 1024 output. Subcore
  `(c, s)` (SparseCore `c`, tile `s`) copies rows `2048 s + 1024 c + 32 j … + 32` for `j = 0 … 31`, chunk by chunk, through
  three buffers of 32 rows.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The kernels' labels, lifted through the one TensorCore pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The kernels' bodies beside the TensorCore pipeline's. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call has sixteen tasks per SparseCore, on two SparseCores. -/
theorem nSub_zero : (K (F := F)).nSub 0 = 16 := rfl
/-- The call runs on 2 SparseCores. -/
theorem nCore_zero : (K (F := F)).nCore 0 = 2 := rfl

/-- The handshake semaphores are distinct, unscoped, and no SparseCore buffer is shared between tasks. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

/-- The algebra the assertions live in. -/
abbrev MM (F : FTy → Type) : Type := MT nD τ sig (HIx 1) (Elt F) ℕ UU ℕ

/-- The handshakes' rounds inside it, -/
abbrev EH : Emb UH (MM F) := embL
/-- and the TensorCore pipeline's. -/
abbrev EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-! ## The arrays -/

/-- `hidden` as given, flattened to rows, the SparseCore call's result, @main's result. -/
abbrev aLoc (d : Dev nD) : Loc nD τ sig := (SparseCore.T d).loc main_arg0
abbrev bLoc (d : Dev nD) : Loc nD τ sig := (SparseCore.T d).loc main_arg1
abbrev hLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The kernel's memrefs, as the body table passes them: the rows, the output, the three buffers. -/
abbrev hV : Memref sig .scVector .hbm S32768x1024 .f32 := Memref.whole main_v0_scv
abbrev oV : Memref sig .scVector .hbm S131072x1024 .f32 := Memref.whole main_v1_scv
abbrev b0V : Memref sig .scVector .vmem S32x1024 .f32 := Memref.whole cc0_scratch0
abbrev b1V : Memref sig .scVector .vmem S32x1024 .f32 := Memref.whole cc0_scratch1
abbrev b2V : Memref sig .scVector .vmem S32x1024 .f32 := Memref.whole cc0_scratch2

/-- The SparseCore, the tile and the thread of grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first row of chunk `t` of grid point `L`, and the chunk's offsets. -/
def row0 (L : grid0.Coords) (t : ℕ) : ℕ := 2048 * (L 1).val + 1024 * (L 0).val + 32 * t
def choff (L : grid0.Coords) (t : ℕ) : Fin 2 → ℕ := ![row0 L t, 0]

/-- A chunk's rows lie among the first 32768. -/
theorem row0_lt (L : grid0.Coords) {t : ℕ} (ht : t < 32) : row0 L t + 32 ≤ 32768 := by
  have h0 : (L 0).val < 2 := (L 0).isLt
  have h1 : (L 1).val < 16 := (L 1).isLt
  unfold row0; omega

/-- The elements of rows `a … a + 32` of the flattened `hidden` and of the output. -/
def hRows (a : ℕ) : Finset S32768x1024.Idx := Finset.univ.filter fun x => a ≤ (x 0).val ∧ (x 0).val < a + 32
def oRows (a : ℕ) : Finset S131072x1024.Idx := Finset.univ.filter fun x => a ≤ (x 0).val ∧ (x 0).val < a + 32

/-- A row is among the 32 from `a` when it lies between `a` and `a + 32`: of `hidden`, then of the output. -/
theorem mem_hRows {a : ℕ} {x : S32768x1024.Idx} : x ∈ hRows a ↔ a ≤ (x 0).val ∧ (x 0).val < a + 32 := by simp [hRows]
theorem mem_oRows {a : ℕ} {x : S131072x1024.Idx} : x ∈ oRows a ↔ a ≤ (x 0).val ∧ (x 0).val < a + 32 := by simp [oRows]

/-- The slices the kernel's transfers name, at any spelling of their offsets. -/
abbrev hSl (o : Fin 2 → ℕ) (h : ∀ a, o a + S32x1024.size a ≤ S32768x1024.size a) : Memref sig .scVector .hbm S32x1024 .f32 :=
  hV.slice (Rect.unit (s := S32768x1024) o S32x1024.size h) (fun _ => rfl)
abbrev oSl (o : Fin 2 → ℕ) (h : ∀ a, o a + S32x1024.size a ≤ S131072x1024.size a) : Memref sig .scVector .hbm S32x1024 .f32 :=
  oV.slice (Rect.unit (s := S131072x1024) o S32x1024.size h) (fun _ => rfl)

/-- A slice of 32 whole rows is those rows' elements. -/
theorem set_hSl (a : ℕ) (h) : (hSl ![a, 0] h).view.set = hRows a := by
  show ((View.whole main_v0_scv).slice _).set = _
  rw [View.set_slice_whole]
  ext x
  rw [Rect.mem_set_unit, mem_hRows]
  have hx : (x 1).val < 1024 := (x 1).isLt
  constructor
  · intro H; exact H 0
  · intro H k
    match k with
    | 0 => exact H
    | 1 => exact ⟨Nat.zero_le _, by show (x 1).val < 0 + 1024; omega⟩
/-- The elements of the output's slice at row `a` are its 32 rows from `a`. -/
theorem set_oSl (a : ℕ) (h) : (oSl ![a, 0] h).view.set = oRows a := by
  show ((View.whole main_v1_scv).slice _).set = _
  rw [View.set_slice_whole]
  ext x
  rw [Rect.mem_set_unit, mem_oRows]
  have hx : (x 1).val < 1024 := (x 1).isLt
  constructor
  · intro H; exact H 0
  · intro H k
    match k with
    | 0 => exact H
    | 1 => exact ⟨Nat.zero_le _, by show (x 1).val < 0 + 1024; omega⟩

/-! ## The values -/

/-- The index of row `r`, column `c` among the 32768 rows. -/
def hIdx (r : Fin 32768) (c : Fin 1024) : S32768x1024.Idx := fun a => match a with
  | 0 => r
  | 1 => c

/-- What a list of 32 rows holds when it holds rows `a … a + 32` of `H` (the row taken below 32768, so that it is total). -/
def rowsOf (H : S32768x1024.Idx → F .f32) (a : ℕ) : S32x1024.Idx → F .f32 := fun y =>
  H (hIdx ⟨(a + (y 0).val) % 32768, Nat.mod_lt _ (by decide)⟩ (y 1))

/-- The output once the copy is done: row `i` of `H` in row `i` for `i < 32768`, `z` below. -/
def copied (H : S32768x1024.Idx → F .f32) (z : S131072x1024.Idx → F .f32) : S131072x1024.Idx → F .f32 := fun x =>
  if h : (x 0).val < 32768 then H (hIdx ⟨(x 0).val, h⟩ (x 1)) else z x

end Cert.Proof.Copy

end
-- ==== Proof.Tile.lean ====
/-
  One subcore's task: 32 chunks of 32 rows through a ring of three buffers.

  A slot of the ring is a buffer with its two semaphores, one counting the copy into it, one the copy out of it. Between
  trips `j` and `j + 1` of the loop the slots are, by age: the one that chunk `j - 1` is being copied into, the one that
  chunk `j - 2` is being copied out of, the one that chunk `j - 3` is being copied out of. A trip waits for the oldest
  copy out, starts chunk `j` into that slot, waits for chunk `j - 1` to be in and starts it out. Each copy has its slot's
  semaphore to itself, so that a wait is for that copy.
-/
module

public import proofs.«01_k».proof.Proof.Common

@[expose] public section

set_option maxRecDepth 16384

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Ring

variable (d : Dev nD) (L : grid0.Coords) (H : Buf (Elt F) (hLoc d)) (z : Buf (Elt F) (oLoc d))

/-! ## Chunks and slots -/

/-- Chunk `t`'s rows of `hidden`; its rows of the output at contents `f`; the two before the copy and after it. -/
def HC (t : ℕ) : sProp (MM F) := hLoc d ↦[hRows (row0 L t)]{fullShare} H
def OC (t : ℕ) (f : Buf (Elt F) (oLoc d)) : sProp (MM F) := oLoc d ↦[oRows (row0 L t)]{fullShare} f
def Todo (t : ℕ) : sProp (MM F) := iprop(HC d L H t ∗ OC d L t z)
def Done (t : ℕ) : sProp (MM F) := iprop(HC d L H t ∗ OC d L t (copied H z))

/-- A slot of the ring: a buffer, the semaphore of the copies into it, the semaphore of the copies out of it. -/
structure Slot where
  b : Memref sig .scVector .vmem S32x1024 .f32
  sg : DmaSem sig
  ss : DmaSem sig

/-- The slot's buffer, at some contents; at contents that read as `v`. -/
def BufAny (s : Slot) : sProp (MM F) := iprop(∃ f, s.b.view.loc (thr d L) ↦[s.b.view.set]{fullShare} f)
def BufVal (s : Slot) (v : S32x1024.Idx → F .f32) : sProp (MM F) :=
  iprop(∃ f, ⌜s.b.view.read (Elt F) f = v⌝ ∗ s.b.view.loc (thr d L) ↦[s.b.view.set]{fullShare} f)

/-- The amount a copy into a buffer credits, and a copy into the output: that of 32 rows. -/
def inN (s : Slot) : ℕ := s.b.view.dmaCredit
def outN : ℕ := (oSl ![0, 0] (by decide)).view.dmaCredit

/-- Chunk `t` on its way into the slot, and out of it. -/
def InFl (s : Slot) (t : ℕ) : sProp (MM F) :=
  Transfers.Flight countersEmb (thr d L) (.dma s.sg) (default : HIx 1) (inN s) iprop(BufVal d L s (rowsOf H (row0 L t)) ∗ HC d L H t)
def OutFl (s : Slot) (t : ℕ) : sProp (MM F) :=
  Transfers.Flight countersEmb (thr d L) (.dma s.ss) (default : HIx 1) outN iprop(OC d L t (copied H z) ∗ BufAny (F := F) d L s)

/-- What the thread owes, its waits so far all on cells of its own. -/
def Ow (O : CellTallies nD τ sig (HIx 1)) (W : Waits sig (HIx 1)) : sProp (MM F) :=
  iprop(∃ W', ⌜∀ p ∈ W', p ∈ W ∨ p.2 = none⌝ ∗ owes (thr d L) O W')

/-! ## The four operations on a slot -/

section Ops

variable {α : Type} {k : PUnit → Prog (TpuEff nD τ sig (Elt F) Λ₀ (thr d L).2) α} {Q : α → sProp (MM F)}
variable (s : Slot) (t : ℕ) (o : Fin 2 → ℕ)

/-- Starting chunk `t` into the slot. -/
theorem in_start (ht : t < 32) (h : ∀ a, o a + S32x1024.size a ≤ S32768x1024.size a) (ho : o = ![row0 L t, 0])
    {h1 h2 h3} :
    iprop(BufAny (F := F) d L s ∗ HC d L H t ∗ semVal (thr d L, .dma s.sg) 0)
      ⊢ iprop((InFl d L H s t -∗ wp frame (wpE (defs₀ (F := F)) 𝒱₀ (thr d L) none) Set.univ (k ⟨⟩) Q)
        -∗ wp frame (wpE (defs₀ (F := F)) 𝒱₀ (thr d L) none) Set.univ (.op (.enqueueDma (hSl o h) (.here s.b) (.dma s.sg) h1 h2 h3) k) Q) := by
  subst ho
  have hb := row0_lt L ht
  unfold BufAny
  iintro ⟨⟨%f, Hb⟩, Hh, Hs⟩ Hk
  ihave Hh' := (Entails.of_eq (show HC d L H t = ((hSl ![row0 L t, 0] h).view.loc (thr d L) ↦[(hSl ![row0 L t, 0] h).view.set]{fullShare} H : sProp (MM F)) by
    rw [set_hSl]; rfl)) $$ Hh
  iapply (Transfers.wp_dmaLocal countersEmb 𝒱₀ (thr d L) none (via := .same) (default : HIx 1) (inN s) rfl
    (View.dmaCredit_pos _ (by decide)) (subset_refl s.b.view.set)) $$ [Hb Hh' Hs]
  · isplitl [Hh']; · iexact Hh'
    isplitl [Hb]; · iexact Hb
    iexact Hs
  iintro Hfl
  iapply Hk
  unfold InFl
  iapply (Transfers.Flight_mono countersEmb (thr d L) ?_) $$ Hfl
  iintro ⟨Hb, Hh⟩
  isplitl [Hb]
  · unfold BufVal
    iexists _; isplitr
    swap; · iexact Hb
    ipureintro
    rw [View.read_write_univ]
    funext y
    show (hSl ![row0 L t, 0] h).view.read (Elt F) H y = _
    have hy : (y 0).val < 32 := (y 0).isLt
    rw [View.read_apply]
    refine (cast_eq _ _).trans ?_
    unfold rowsOf
    congr 1
    funext a
    match a with
    | 0 => apply Fin.ext; show row0 L t + 1 * (y 0).val = (row0 L t + (y 0).val) % 32768; rw [Nat.mod_eq_of_lt (by omega)]; omega
    | 1 => apply Fin.ext; show 0 + 1 * (y 1).val = (y 1).val; omega
  · iapply (Entails.of_eq (show HC d L H t = ((hSl ![row0 L t, 0] h).view.loc (thr d L) ↦[(hSl ![row0 L t, 0] h).view.set]{fullShare} H : sProp (MM F)) by
      rw [set_hSl]; rfl).symm)
    iexact Hh

/-- Starting the slot's chunk `t` out. -/
theorem out_start (ht : t < 32) (h : ∀ a, o a + S32x1024.size a ≤ S131072x1024.size a) (ho : o = ![row0 L t, 0])
    {h1 h2 h3} :
    iprop(BufVal d L s (rowsOf H (row0 L t)) ∗ OC d L t z ∗ semVal (thr d L, .dma s.ss) 0)
      ⊢ iprop((OutFl d L H z s t -∗ wp frame (wpE (defs₀ (F := F)) 𝒱₀ (thr d L) none) Set.univ (k ⟨⟩) Q)
        -∗ wp frame (wpE (defs₀ (F := F)) 𝒱₀ (thr d L) none) Set.univ (.op (.enqueueDma s.b (.here (oSl o h)) (.dma s.ss) h1 h2 h3) k) Q) := by
  subst ho
  have hb := row0_lt L ht
  unfold BufVal
  iintro ⟨⟨%f, %hf, Hb⟩, Ho, Hs⟩ Hk
  ihave Ho' := (Entails.of_eq (show OC d L t z = ((oSl ![row0 L t, 0] h).view.loc (thr d L) ↦[(oSl ![row0 L t, 0] h).view.set]{fullShare} z : sProp (MM F)) by
    rw [set_oSl]; rfl)) $$ Ho
  iapply (Transfers.wp_dmaLocal countersEmb 𝒱₀ (thr d L) none (via := .same) (default : HIx 1) outN rfl
    (View.dmaCredit_pos _ (by decide)) (subset_refl (oSl ![row0 L t, 0] h).view.set)) $$ [Hb Ho' Hs]
  · isplitl [Hb]; · iexact Hb
    isplitl [Ho']; · iexact Ho'
    iexact Hs
  iintro Hfl
  iapply Hk
  unfold OutFl
  iapply (Transfers.Flight_mono countersEmb (thr d L) ?_) $$ Hfl
  iintro ⟨Ho, Hb⟩
  isplitl [Ho]
  · have hv : ∀ x ∈ (oSl ![row0 L t, 0] h).view.set,
        (oSl ![row0 L t, 0] h).view.write (Elt F) z (s.b.view.read (Elt F) f) Finset.univ x = copied H z x := by
      intro x hx
      obtain ⟨y, -, rfl⟩ := Finset.mem_map.mp hx
      have hy : (y 0).val < 32 := (y 0).isLt
      rw [View.write_emb_of_mem _ _ (Finset.mem_univ y), hf]
      refine (cast_eq _ _).trans ?_
      have h0 : (((oSl ![row0 L t, 0] h).view.emb y) 0).val = row0 L t + (y 0).val := by
        show row0 L t + 1 * (y 0).val = _; omega
      have h1 : ((oSl ![row0 L t, 0] h).view.emb y) 1 = y 1 := by
        apply Fin.ext; show 0 + 1 * (y 1).val = _; omega
      unfold copied rowsOf
      rw [dif_pos (by rw [h0]; omega)]
      congr 1
      funext a
      match a with
      | 0 => apply Fin.ext; show (row0 L t + (y 0).val) % 32768 = _; rw [Nat.mod_eq_of_lt (by omega)]; exact h0.symm
      | 1 => exact h1.symm
    ihave Ho2 := (Entails.of_eq (pointsTo_congr hv)) $$ Ho
    iapply (Entails.of_eq (show OC d L t (copied H z) = ((oSl ![row0 L t, 0] h).view.loc (thr d L) ↦[(oSl ![row0 L t, 0] h).view.set]{fullShare} (copied H z) : sProp (MM F)) by
      rw [set_oSl]; rfl).symm)
    iexact Ho2
  · unfold BufAny; iexists _; iexact Hb

variable {O : CellTallies nD τ sig (HIx 1)} {W : Waits sig (HIx 1)}

/-- Waiting for the slot's chunk to be in. -/
theorem in_wait {sp' : Space} {s' : Shape} {e' : EltTy} {srcw : Memref sig (thr d L).2.kind sp' s' e'} {h1 h2} :
    iprop(InFl d L H s t ∗ Ow d L O W ∗ Transfers.MayWaits (thr d L) (default : HIx 1) O)
      ⊢ iprop((iprop(BufVal d L s (rowsOf H (row0 L t)) ∗ HC d L H t ∗ semVal (thr d L, .dma s.sg) 0 ∗ Ow d L O W)
          -∗ wp frame (wpE (defs₀ (F := F)) 𝒱₀ (thr d L) none) Set.univ (k ⟨⟩) Q)
        -∗ wp frame (wpE (defs₀ (F := F)) 𝒱₀ (thr d L) none) Set.univ (.op (.waitDma2 s.sg srcw s.b h1 h2) k) Q) := by
  unfold InFl Ow
  iintro ⟨Hfl, ⟨%W', %hW', HO⟩, Hmw⟩ Hk
  iapply (Transfers.wp_waitLocalO countersEmb 𝒱₀ (thr d L) none (default : HIx 1) (rfl : s.b.view.dmaCredit = inN s)) $$ [Hfl HO Hmw]
  · isplitl [Hfl]; · iexact Hfl
    isplitl [HO]; · iexact HO
    iapply (Transfers.MayWaits.elim (SemLoc.dma s.sg)) $$ Hmw
  iintro ⟨⟨Hb, Hh⟩, Hs, HO⟩
  iapply Hk
  isplitl [Hb]; · iexact Hb
  isplitl [Hh]; · iexact Hh
  isplitl [Hs]; · iexact Hs
  iexists _; isplitr
  swap; · iexact HO
  ipureintro; intro p hp
  rcases Finset.mem_insert.mp hp with hp | hp
  · exact .inr (hp ▸ rfl)
  · exact hW' p hp

/-- Waiting for the slot's chunk to be out. -/
theorem out_wait {sp' : Space} {s' : Shape} {e' : EltTy} {srcw : Memref sig (thr d L).2.kind sp' s' e'}
    {h : ∀ a, o a + S32x1024.size a ≤ S131072x1024.size a} {h1 h2} :
    iprop(OutFl d L H z s t ∗ Ow d L O W ∗ Transfers.MayWaits (thr d L) (default : HIx 1) O)
      ⊢ iprop((iprop(OC d L t (copied H z) ∗ BufAny (F := F) d L s ∗ semVal (thr d L, .dma s.ss) 0 ∗ Ow d L O W)
          -∗ wp frame (wpE (defs₀ (F := F)) 𝒱₀ (thr d L) none) Set.univ (k ⟨⟩) Q)
        -∗ wp frame (wpE (defs₀ (F := F)) 𝒱₀ (thr d L) none) Set.univ (.op (.waitDma2 s.ss srcw (oSl o h) h1 h2) k) Q) := by
  unfold OutFl Ow
  iintro ⟨Hfl, ⟨%W', %hW', HO⟩, Hmw⟩ Hk
  iapply (Transfers.wp_waitLocalO countersEmb 𝒱₀ (thr d L) none (default : HIx 1) (rfl : (oSl o h).view.dmaCredit = outN)) $$ [Hfl HO Hmw]
  · isplitl [Hfl]; · iexact Hfl
    isplitl [HO]; · iexact HO
    iapply (Transfers.MayWaits.elim (SemLoc.dma s.ss)) $$ Hmw
  iintro ⟨⟨Ho, Hb⟩, Hs, HO⟩
  iapply Hk
  isplitl [Ho]; · iexact Ho
  isplitl [Hb]; · iexact Hb
  isplitl [Hs]; · iexact Hs
  iexists _; isplitr
  swap; · iexact HO
  ipureintro; intro p hp
  rcases Finset.mem_insert.mp hp with hp | hp
  · exact .inr (hp ▸ rfl)
  · exact hW' p hp

end Ops

/-! ## The ring between two trips -/

/-- An idle slot; one that chunk `t` is coming into (its rows of the output in hand); one that chunk `t` is leaving. -/
def Idle (s : Slot) : sProp (MM F) :=
  iprop(BufAny (F := F) d L s ∗ semVal (thr d L, .dma s.sg) 0 ∗ semVal (thr d L, .dma s.ss) 0)
def Coming (s : Slot) (t : ℕ) : sProp (MM F) := iprop(InFl d L H s t ∗ OC d L t z ∗ semVal (thr d L, .dma s.ss) 0)
def Leaving (s : Slot) (t : ℕ) : sProp (MM F) := iprop(OutFl d L H z s t ∗ HC d L H t ∗ semVal (thr d L, .dma s.sg) 0)

/-- The three slots before trip `j`, youngest first: a slot not used yet is idle. -/
def stA (j : ℕ) (s : Slot) : sProp (MM F) := if 1 ≤ j then Coming d L H z s (j - 1) else Idle (F := F) d L s
def stB (j : ℕ) (s : Slot) : sProp (MM F) := if 2 ≤ j then Leaving d L H z s (j - 2) else Idle (F := F) d L s
def stC (j : ℕ) (s : Slot) : sProp (MM F) := if 3 ≤ j then Leaving d L H z s (j - 3) else Idle (F := F) d L s

/-- The whole state before trip `j`: chunks `0 … j - 4` done, chunks `j …` untouched, three slots. -/
def RING (O : CellTallies nD τ sig (HIx 1)) (W : Waits sig (HIx 1)) (j : ℕ) (A B C : Slot) : sProp (MM F) :=
  iprop(stA d L H z j A ∗ stB d L H z j B ∗ stC d L H z j C
    ∗ bigSep (Finset.Ico j 32) (Todo d L H z) ∗ bigSep (Finset.range (j - 3)) (Done d L H z)
    ∗ Transfers.MayWaits (thr d L) (default : HIx 1) O ∗ Ow (F := F) d L O W)

/-- The untouched chunks from `j` are chunk `j` and those from `j + 1`. -/
theorem todo_take {j : ℕ} (hj : j < 32) :
    bigSep (Finset.Ico j 32) (Todo d L H z) = iprop(Todo d L H z j ∗ bigSep (Finset.Ico (j + 1) 32) (Todo d L H z)) := by
  rw [← Finset.insert_Ico_add_one_left_eq_Ico hj]
  exact bigSep_insert (by simp)

/-- The chunks done before `n + 1` are those before `n` and chunk `n`. -/
theorem done_put (n : ℕ) :
    bigSep (Finset.range (n + 1)) (Done d L H z) = iprop(Done d L H z n ∗ bigSep (Finset.range n) (Done d L H z)) := by
  rw [Finset.range_add_one]
  exact bigSep_insert (by simp)

variable (O : CellTallies nD τ sig (HIx 1)) (W : Waits sig (HIx 1)) (A B C : Slot) (j : ℕ)

section Trips

variable {o1 o2 o3 : Fin 2 → ℕ}

/-- The first trip: the chunk is started into an idle slot. -/
theorem trip_first (hj : j = 0) (h : ∀ a, o1 a + S32x1024.size a ≤ S32768x1024.size a) (ho : o1 = ![row0 L j, 0]) {h1 h2 h3} :
    RING d L H z O W j A B C ⊢ wp frame (wpE (defs₀ (F := F)) 𝒱₀ (thr d L) none) Set.univ
      (.op (.enqueueDma (hSl o1 h) (.here C.b) (.dma C.sg) h1 h2 h3) fun _ => .ret ())
      fun _ => RING d L H z O W (j + 1) C A B := by
  subst hj
  unfold RING
  rw [todo_take d L H z (by decide : 0 < 32)]
  rw [show stA d L H z 0 A = Idle (F := F) d L A from if_neg (by decide), show stB d L H z 0 B = Idle (F := F) d L B from if_neg (by decide),
    show stC d L H z 0 C = Idle (F := F) d L C from if_neg (by decide), show stA d L H z (0 + 1) C = Coming d L H z C 0 from if_pos (by decide),
    show stB d L H z (0 + 1) A = Idle (F := F) d L A from if_neg (by decide), show stC d L H z (0 + 1) B = Idle (F := F) d L B from if_neg (by decide)]
  unfold Todo Coming
  rw [show Idle (F := F) d L C = iprop(BufAny (F := F) d L C ∗ semVal (thr d L, .dma C.sg) 0 ∗ semVal (thr d L, .dma C.ss) 0) from rfl]
  iintro ⟨HA, HB, ⟨Hb, Hg, Hs⟩, ⟨⟨Hh, Ho⟩, Htodo⟩, Hdone, Hmw, HO⟩
  iapply (in_start d L H C 0 o1 (by decide) h ho) $$ [Hb Hh Hg]
  · isplitl [Hb]; · iexact Hb
    isplitl [Hh]; · iexact Hh
    iexact Hg
  iintro Hfl
  sl_step
  isplitl [Hfl Ho Hs]
  · isplitl [Hfl]; · iexact Hfl
    isplitl [Ho]; · iexact Ho
    iexact Hs
  isplitl [HA]; · iexact HA
  isplitl [HB]; · iexact HB
  isplitl [Htodo]; · iexact Htodo
  isplitl [Hdone]; · iexact Hdone
  isplitl [Hmw]; · iexact Hmw
  iexact HO

/-- A later trip once the oldest slot is idle: chunk `j` is started into it; chunk `j - 1` is awaited and started out. -/
theorem trip_tail (hj : 1 ≤ j) (hj' : j < 32)
    (h : ∀ a, o1 a + S32x1024.size a ≤ S32768x1024.size a) (ho : o1 = ![row0 L j, 0])
    (h' : ∀ a, o2 a + S32x1024.size a ≤ S131072x1024.size a) (ho' : o2 = ![row0 L (j - 1), 0])
    {sp' : Space} {s' : Shape} {e' : EltTy} {srcw : Memref sig (thr d L).2.kind sp' s' e'}
    {h1 h2 h3 h4 h5 h6 h7 h8} :
    iprop(Coming d L H z A (j - 1) ∗ stB d L H z j B ∗ Idle (F := F) d L C
        ∗ bigSep (Finset.Ico j 32) (Todo d L H z) ∗ bigSep (Finset.range (j + 1 - 3)) (Done d L H z)
        ∗ Transfers.MayWaits (thr d L) (default : HIx 1) O ∗ Ow (F := F) d L O W)
      ⊢ wp frame (wpE (defs₀ (F := F)) 𝒱₀ (thr d L) none) Set.univ
      (.op (.enqueueDma (hSl o1 h) (.here C.b) (.dma C.sg) h1 h2 h3) fun _ =>
        .op (.waitDma2 A.sg srcw A.b h4 h5) fun _ =>
        .op (.enqueueDma A.b (.here (oSl o2 h')) (.dma A.ss) h6 h7 h8) fun _ => .ret ())
      fun _ => RING d L H z O W (j + 1) C A B := by
  have hBC : stC d L H z (j + 1) B = stB d L H z j B := by
    unfold stC stB; rw [show j + 1 - 3 = j - 2 by omega]; simp only [show 3 ≤ j + 1 ↔ 2 ≤ j by omega]
  unfold RING
  rw [todo_take d L H z hj', hBC]
  unfold stA Todo Coming Idle
  rw [show stB d L H z (j + 1) A = Leaving d L H z A (j - 1) by
    unfold stB; rw [if_pos (by omega), show j + 1 - 2 = j - 1 by omega]]
  rw [if_pos (by omega : 1 ≤ j + 1), show j + 1 - 1 = j by omega]
  unfold Leaving
  iintro ⟨⟨Hin, HoA, HsA⟩, HB, ⟨Hb, Hg, Hs⟩, ⟨⟨Hh, Ho⟩, Htodo⟩, Hdone, #Hmw, HO⟩
  iapply (in_start d L H C j o1 hj' h ho) $$ [Hb Hh Hg]
  · isplitl [Hb]; · iexact Hb
    isplitl [Hh]; · iexact Hh
    iexact Hg
  iintro Hfl
  iapply (in_wait d L H A (j - 1) (O := O) (W := W)) $$ [Hin HO]
  · isplitl [Hin]; · iexact Hin
    isplitl [HO]; · iexact HO
    iexact Hmw
  iintro ⟨HbA, HhA, HgA, HO⟩
  iapply (out_start d L H z A (j - 1) o2 (by omega) h' ho') $$ [HbA HoA HsA]
  · isplitl [HbA]; · iexact HbA
    isplitl [HoA]; · iexact HoA
    iexact HsA
  iintro Hout
  sl_step
  isplitl [Hfl Ho Hs]
  · isplitl [Hfl]; · iexact Hfl
    isplitl [Ho]; · iexact Ho
    iexact Hs
  isplitl [Hout HhA HgA]
  · isplitl [Hout]; · iexact Hout
    isplitl [HhA]; · iexact HhA
    iexact HgA
  isplitl [HB]; · iexact HB
  isplitl [Htodo]; · iexact Htodo
  isplitl [Hdone]; · iexact Hdone
  isplitr; · iexact Hmw
  iexact HO

/-- The second and third trips: the oldest slot is idle. -/
theorem trip_early (hj : 1 ≤ j) (hj' : j < 3)
    (h : ∀ a, o1 a + S32x1024.size a ≤ S32768x1024.size a) (ho : o1 = ![row0 L j, 0])
    (h' : ∀ a, o2 a + S32x1024.size a ≤ S131072x1024.size a) (ho' : o2 = ![row0 L (j - 1), 0])
    {sp' : Space} {s' : Shape} {e' : EltTy} {srcw : Memref sig (thr d L).2.kind sp' s' e'}
    {h1 h2 h3 h4 h5 h6 h7 h8} :
    RING d L H z O W j A B C ⊢ wp frame (wpE (defs₀ (F := F)) 𝒱₀ (thr d L) none) Set.univ
      (.op (.enqueueDma (hSl o1 h) (.here C.b) (.dma C.sg) h1 h2 h3) fun _ =>
        .op (.waitDma2 A.sg srcw A.b h4 h5) fun _ =>
        .op (.enqueueDma A.b (.here (oSl o2 h')) (.dma A.ss) h6 h7 h8) fun _ => .ret ())
      fun _ => RING d L H z O W (j + 1) C A B := by
  refine (Entails.of_eq ?_).trans (trip_tail d L H z O W A B C j hj (by omega) h ho h' ho')
  unfold RING stA stC
  rw [if_pos hj, if_neg (by omega), show j + 1 - 3 = j - 3 by omega]

/-- The other trips: the oldest slot's chunk is awaited first. -/
theorem trip_late (hj : 3 ≤ j) (hj' : j < 32)
    (h : ∀ a, o1 a + S32x1024.size a ≤ S32768x1024.size a) (ho : o1 = ![row0 L j, 0])
    (h' : ∀ a, o2 a + S32x1024.size a ≤ S131072x1024.size a) (ho' : o2 = ![row0 L (j - 1), 0])
    (h'' : ∀ a, o3 a + S32x1024.size a ≤ S131072x1024.size a)
    {sp' : Space} {s' : Shape} {e' : EltTy} {srcw : Memref sig (thr d L).2.kind sp' s' e'}
    {sp'' : Space} {s'' : Shape} {e'' : EltTy} {srcw' : Memref sig (thr d L).2.kind sp'' s'' e''}
    {h1 h2 h3 h4 h5 h6 h7 h8 h9 h10} :
    RING d L H z O W j A B C ⊢ wp frame (wpE (defs₀ (F := F)) 𝒱₀ (thr d L) none) Set.univ
      (.op (.waitDma2 C.ss srcw' (oSl o3 h'') h9 h10) fun _ =>
        .op (.enqueueDma (hSl o1 h) (.here C.b) (.dma C.sg) h1 h2 h3) fun _ =>
        .op (.waitDma2 A.sg srcw A.b h4 h5) fun _ =>
        .op (.enqueueDma A.b (.here (oSl o2 h')) (.dma A.ss) h6 h7 h8) fun _ => .ret ())
      fun _ => RING d L H z O W (j + 1) C A B := by
  have key := trip_tail d L H z O W A B C j (by omega) hj' h ho h' ho' (srcw := srcw) (h1 := h1) (h2 := h2) (h3 := h3) (h4 := h4)
    (h5 := h5) (h6 := h6) (h7 := h7) (h8 := h8)
  rw [show j + 1 - 3 = (j - 3) + 1 by omega, done_put] at key
  rw [show RING d L H z O W j A B C = iprop(Coming d L H z A (j - 1) ∗ stB d L H z j B ∗ Leaving d L H z C (j - 3)
    ∗ bigSep (Finset.Ico j 32) (Todo d L H z) ∗ bigSep (Finset.range (j - 3)) (Done d L H z)
    ∗ Transfers.MayWaits (thr d L) (default : HIx 1) O ∗ Ow (F := F) d L O W) by
      unfold RING stA stC; rw [if_pos (by omega : 1 ≤ j), if_pos hj]]
  unfold Leaving
  iintro ⟨HA, HB, ⟨Hout, HhC, HgC⟩, Htodo, Hdone, #Hmw, HO⟩
  iapply (out_wait d L H z C (j - 3) o3 (O := O) (W := W)) $$ [Hout HO]
  · isplitl [Hout]; · iexact Hout
    isplitl [HO]; · iexact HO
    iexact Hmw
  iintro ⟨HoC, HbC, HsC, HO⟩
  iapply key
  isplitl [HA]; · iexact HA
  isplitl [HB]; · iexact HB
  isplitl [HbC HgC HsC]
  · unfold Idle
    isplitl [HbC]; · iexact HbC
    isplitl [HgC]; · iexact HgC
    iexact HsC
  isplitl [Htodo]; · iexact Htodo
  isplitl [HoC HhC Hdone]
  · isplitl [HoC HhC]
    · unfold Done
      isplitl [HhC]; · iexact HhC
      iexact HoC
    iexact Hdone
  isplitr; · iexact Hmw
  iexact HO

end Trips

/-! ## The loop's trips -/

/-- The three slots of the kernel. -/
def s0 : Slot := ⟨b0V, cc0_scratch3.sem, cc0_scratch6.sem⟩
def s1 : Slot := ⟨b1V, cc0_scratch4.sem, cc0_scratch7.sem⟩
def s2 : Slot := ⟨b2V, cc0_scratch5.sem, cc0_scratch8.sem⟩

/-- The state before trip `j`, the slots placed by the residue of `j` modulo 3: chunk `j` goes into slot `j mod 3`. -/
def INV (j : ℕ) : sProp (MM F) :=
  match j % 3 with
  | 0 => RING d L H z O W j s2 s1 s0
  | 1 => RING d L H z O W j s0 s2 s1
  | _ => RING d L H z O W j s1 s0 s2

/-- The state, by the residue of `j`: which slot is the youngest, which the middle one, which the oldest. -/
theorem INV_zero (h : j % 3 = 0) : INV d L H z O W j = RING d L H z O W j s2 s1 s0 := by unfold INV; rw [h]; rfl
theorem INV_one (h : j % 3 = 1) : INV d L H z O W j = RING d L H z O W j s0 s2 s1 := by unfold INV; rw [h]; rfl
theorem INV_two (h : j % 3 = 2) : INV d L H z O W j = RING d L H z O W j s1 s0 s2 := by unfold INV; rw [h]; rfl

end Ring

/-! What the loop's conditions say of the trip. -/

/-- The loop makes 32 trips; what each printed condition of a `when` or a `switch` says of the trip's number. -/
theorem trips_eq : k0_t1_loop.trips = 32 := by decide +kernel
theorem cond1_iff : ∀ j : Fin k0_t1_loop.trips, k0_cond1 j = 1#1 ↔ 3 ≤ j.val := by decide +kernel
theorem cond2_iff : ∀ j : Fin k0_t1_loop.trips, k0_cond2 j = 1#1 ↔ j.val % 3 ≠ 0 := by decide +kernel
theorem cond3_iff : ∀ j : Fin k0_t1_loop.trips, j.val % 3 ≠ 0 → (k0_cond3 j = 1#1 ↔ j.val % 3 = 2) := by decide +kernel
theorem cond4_iff : ∀ j : Fin k0_t1_loop.trips, k0_cond4 j = 1#1 ↔ j.val % 3 ≠ 0 := by decide +kernel
theorem cond5_iff : ∀ j : Fin k0_t1_loop.trips, j.val % 3 ≠ 0 → (k0_cond5 j = 1#1 ↔ j.val % 3 = 2) := by decide +kernel
theorem cond6_iff : ∀ j : Fin k0_t1_loop.trips, k0_cond6 j = 1#1 ↔ 1 ≤ j.val := by decide +kernel
theorem cond7_iff : ∀ j : Fin k0_t1_loop.trips, 1 ≤ j.val → (k0_cond7 j = 1#1 ↔ j.val % 3 ≠ 1) := by decide +kernel
theorem cond8_iff : ∀ j : Fin k0_t1_loop.trips, 1 ≤ j.val → j.val % 3 ≠ 1 → (k0_cond8 j = 1#1 ↔ j.val % 3 = 0) := by decide +kernel

/-! The offsets of the chunks the copies name. -/

/-- The first row of each printed slice is that of the chunk it names. -/
theorem off4_ch (L : grid0.Coords) (j : Fin k0_t1_loop.trips) : k0_off4 L j = ![row0 L j.val, 0] := k0_off4_eq L j
theorem off5_ch (L : grid0.Coords) (j : Fin k0_t1_loop.trips) : k0_off5 L j = ![row0 L j.val, 0] := k0_off5_eq L j
theorem off6_ch (L : grid0.Coords) (j : Fin k0_t1_loop.trips) : k0_off6 L j = ![row0 L j.val, 0] := k0_off6_eq L j
theorem off8_ch : ∀ (L : grid0.Coords) (j : Fin k0_t1_loop.trips), 1 ≤ j.val → k0_off8 L j = ![row0 L (j.val - 1), 0] := by decide +kernel
theorem off10_ch : ∀ (L : grid0.Coords) (j : Fin k0_t1_loop.trips), 1 ≤ j.val → k0_off10 L j = ![row0 L (j.val - 1), 0] := by decide +kernel
theorem off12_ch : ∀ (L : grid0.Coords) (j : Fin k0_t1_loop.trips), 1 ≤ j.val → k0_off12 L j = ![row0 L (j.val - 1), 0] := by decide +kernel
theorem off14_ch (L : grid0.Coords) : k0_off14 L = ![row0 L 31, 0] := k0_off14_eq L

section Loop

variable (d : Dev nD) (L : grid0.Coords) (H : Buf (Elt F) (hLoc d)) (z : Buf (Elt F) (oLoc d))
variable (O : CellTallies nD τ sig (HIx 1)) (W : Waits sig (HIx 1))

/-- The loop's body on the kernel's operands. -/
abbrev loopBody (L : grid0.Coords) : Fin k0_t1_loop.trips → Unit → Prog (TpuEff nD τ sig (Elt F) Λ₀ (.scVector ((L 0).castLE hcore0) ((L 1).castLE hsub0))) Unit :=
  k0_t1_body (F := F) L hV (Memref.isWhole_whole _) oV (Memref.isWhole_whole _) b0V (Memref.isWhole_whole _) b1V (Memref.isWhole_whole _)
    b2V (Memref.isWhole_whole _) cc0_scratch3 cc0_scratch4 cc0_scratch5 cc0_scratch6 cc0_scratch7 cc0_scratch8

set_option maxHeartbeats 1000000 in
/-- One trip keeps the state. -/
theorem trip (j : Fin k0_t1_loop.trips) (u : Unit) :
    INV d L H z O W j.val ⊢ wp frame (wpE (defs₀ (F := F)) 𝒱₀ (thr d L) none) Set.univ (loopBody (F := F) L j u)
      fun _ => INV d L H z O W (j.val + 1) := by
  have hj : j.val < 32 := lt_of_lt_of_eq j.isLt trips_eq
  have e1 := cond1_iff j
  have e2 := cond2_iff j
  have e3 := cond3_iff j
  have e4 := cond4_iff j
  have e5 := cond5_iff j
  have e6 := cond6_iff j
  have e7 := cond7_iff j
  have e8 := cond8_iff j
  have hr : j.val % 3 = 0 ∨ j.val % 3 = 1 ∨ j.val % 3 = 2 := by omega
  rcases hr with hr | hr | hr
  · rw [INV_zero d L H z O W _ hr, INV_one d L H z O W _ (by omega)]
    have n2 : ¬ k0_cond2 j = 1#1 := fun h => e2.mp h hr
    have n4 : ¬ k0_cond4 j = 1#1 := fun h => e4.mp h hr
    rcases Nat.lt_or_ge j.val 1 with h1 | h1
    · have n1 : ¬ k0_cond1 j = 1#1 := fun h => by have := e1.mp h; omega
      have n6 : ¬ k0_cond6 j = 1#1 := fun h => by have := e6.mp h; omega
      simp only [loopBody, k0_t1_body, dif_neg n1, dif_neg n4, dif_neg n6]
      exact trip_first d L H z O W s2 s1 s0 j.val (by omega) _ (off6_ch L j)
    · have p1 : k0_cond1 j = 1#1 := e1.mpr (by omega)
      have p6 : k0_cond6 j = 1#1 := e6.mpr h1
      have p7 : k0_cond7 j = 1#1 := (e7 h1).mpr (by omega)
      have p8 : k0_cond8 j = 1#1 := (e8 h1 (by omega)).mpr hr
      simp only [loopBody, k0_t1_body, dif_pos p1, dif_neg n2, dif_neg n4, dif_pos p6, dif_pos p7, dif_pos p8]
      exact trip_late d L H z O W s2 s1 s0 j.val (by omega) hj _ (off6_ch L j) _ (off8_ch L j h1) _
  · rw [INV_one d L H z O W _ hr, INV_two d L H z O W _ (by omega)]
    have p2 : k0_cond2 j = 1#1 := e2.mpr (by omega)
    have p4 : k0_cond4 j = 1#1 := e4.mpr (by omega)
    have n3 : ¬ k0_cond3 j = 1#1 := fun h => by have := (e3 (by omega)).mp h; omega
    have n5 : ¬ k0_cond5 j = 1#1 := fun h => by have := (e5 (by omega)).mp h; omega
    have h1 : 1 ≤ j.val := by omega
    have p6 : k0_cond6 j = 1#1 := e6.mpr h1
    have n7 : ¬ k0_cond7 j = 1#1 := fun h => (e7 h1).mp h hr
    rcases Nat.lt_or_ge j.val 3 with h3 | h3
    · have n1 : ¬ k0_cond1 j = 1#1 := fun h => by have := e1.mp h; omega
      simp only [loopBody, k0_t1_body, dif_neg n1, dif_pos p4, dif_neg n5, dif_pos p6, dif_neg n7]
      exact trip_early d L H z O W s0 s2 s1 j.val h1 h3 _ (off5_ch L j) _ (off12_ch L j h1)
    · have p1 : k0_cond1 j = 1#1 := e1.mpr h3
      simp only [loopBody, k0_t1_body, dif_pos p1, dif_pos p2, dif_neg n3, dif_pos p4, dif_neg n5, dif_pos p6, dif_neg n7]
      exact trip_late d L H z O W s0 s2 s1 j.val h3 hj _ (off5_ch L j) _ (off12_ch L j h1) _
  · rw [INV_two d L H z O W _ hr, INV_zero d L H z O W _ (by omega)]
    have p2 : k0_cond2 j = 1#1 := e2.mpr (by omega)
    have p4 : k0_cond4 j = 1#1 := e4.mpr (by omega)
    have p3 : k0_cond3 j = 1#1 := (e3 (by omega)).mpr hr
    have p5 : k0_cond5 j = 1#1 := (e5 (by omega)).mpr hr
    have h1 : 1 ≤ j.val := by omega
    have p6 : k0_cond6 j = 1#1 := e6.mpr h1
    have p7 : k0_cond7 j = 1#1 := (e7 h1).mpr (by omega)
    have n8 : ¬ k0_cond8 j = 1#1 := fun h => by have := (e8 h1 (by omega)).mp h; omega
    rcases Nat.lt_or_ge j.val 3 with h3 | h3
    · have n1 : ¬ k0_cond1 j = 1#1 := fun h => by have := e1.mp h; omega
      simp only [loopBody, k0_t1_body, dif_neg n1, dif_pos p4, dif_pos p5, dif_pos p6, dif_pos p7, dif_neg n8]
      exact trip_early d L H z O W s1 s0 s2 j.val h1 h3 _ (off4_ch L j) _ (off10_ch L j h1)
    · have p1 : k0_cond1 j = 1#1 := e1.mpr h3
      simp only [loopBody, k0_t1_body, dif_pos p1, dif_pos p2, dif_pos p3, dif_pos p4, dif_pos p5, dif_pos p6, dif_pos p7, dif_neg n8]
      exact trip_late d L H z O W s1 s0 s2 j.val h3 hj _ (off4_ch L j) _ (off10_ch L j h1) _

/-- After the loop: the last chunk is awaited and started out, the three chunks on their way out are awaited; every
    chunk is done. -/
theorem after_loop (A B C : Slot) {o1 o2 o3 o4 : Fin 2 → ℕ}
    (h : ∀ a, o1 a + S32x1024.size a ≤ S131072x1024.size a) (ho : o1 = ![row0 L 31, 0])
    (h' : ∀ a, o2 a + S32x1024.size a ≤ S131072x1024.size a) (h'' : ∀ a, o3 a + S32x1024.size a ≤ S131072x1024.size a)
    (h4 : ∀ a, o4 a + S32x1024.size a ≤ S131072x1024.size a)
    {sp₁ : Space} {t₁ : Shape} {e₁ : EltTy} {w₁ : Memref sig (thr d L).2.kind sp₁ t₁ e₁}
    {sp₂ : Space} {t₂ : Shape} {e₂ : EltTy} {w₂ : Memref sig (thr d L).2.kind sp₂ t₂ e₂}
    {sp₃ : Space} {t₃ : Shape} {e₃ : EltTy} {w₃ : Memref sig (thr d L).2.kind sp₃ t₃ e₃}
    {sp₄ : Space} {t₄ : Shape} {e₄ : EltTy} {w₄ : Memref sig (thr d L).2.kind sp₄ t₄ e₄}
    {p1 p2 p3 p4 p5 p6 p7 p8 p9 p10 p11} :
    RING d L H z O W 32 A B C ⊢ wp frame (wpE (defs₀ (F := F)) 𝒱₀ (thr d L) none) Set.univ
      (.op (.waitDma2 A.sg w₁ A.b p1 p2) fun _ =>
        .op (.enqueueDma A.b (.here (oSl o1 h)) (.dma A.ss) p3 p4 p5) fun _ =>
        .op (.waitDma2 B.ss w₂ (oSl o2 h') p6 p7) fun _ =>
        .op (.waitDma2 A.ss w₃ (oSl o3 h'') p8 p9) fun _ =>
        .op (.waitDma2 C.ss w₄ (oSl o4 h4) p10 p11) fun _ => .ret PUnit.unit)
      fun _ => iprop(bigSep (Finset.range 32) (Done d L H z) ∗ Idle (F := F) d L A ∗ Idle (F := F) d L B ∗ Idle (F := F) d L C
        ∗ Ow (F := F) d L O W) := by
  rw [show RING d L H z O W 32 A B C = iprop(Coming d L H z A 31 ∗ Leaving d L H z B 30 ∗ Leaving d L H z C 29
    ∗ bigSep (Finset.Ico 32 32) (Todo d L H z) ∗ bigSep (Finset.range 29) (Done d L H z)
    ∗ Transfers.MayWaits (thr d L) (default : HIx 1) O ∗ Ow (F := F) d L O W) by
      unfold RING stA stB stC; rw [if_pos (by decide), if_pos (by decide), if_pos (by decide)],
    done_put d L H z 31, done_put d L H z 30, done_put d L H z 29]
  unfold Coming Leaving
  iintro ⟨⟨Hin, HoA, HsA⟩, ⟨HoutB, HhB, HgB⟩, ⟨HoutC, HhC, HgC⟩, -, Hdone, #Hmw, HO⟩
  iapply (in_wait d L H A 31 (O := O) (W := W)) $$ [Hin HO]
  · isplitl [Hin]; · iexact Hin
    isplitl [HO]; · iexact HO
    iexact Hmw
  iintro ⟨HbA, HhA, HgA, HO⟩
  iapply (out_start d L H z A 31 o1 (by decide) h ho) $$ [HbA HoA HsA]
  · isplitl [HbA]; · iexact HbA
    isplitl [HoA]; · iexact HoA
    iexact HsA
  iintro HoutA
  iapply (out_wait d L H z B 30 o2 (O := O) (W := W)) $$ [HoutB HO]
  · isplitl [HoutB]; · iexact HoutB
    isplitl [HO]; · iexact HO
    iexact Hmw
  iintro ⟨HoB, HbB, HsB, HO⟩
  iapply (out_wait d L H z A 31 o3 (O := O) (W := W)) $$ [HoutA HO]
  · isplitl [HoutA]; · iexact HoutA
    isplitl [HO]; · iexact HO
    iexact Hmw
  iintro ⟨HoA, HbA, HsA, HO⟩
  iapply (out_wait d L H z C 29 o4 (O := O) (W := W)) $$ [HoutC HO]
  · isplitl [HoutC]; · iexact HoutC
    isplitl [HO]; · iexact HO
    iexact Hmw
  iintro ⟨HoC, HbC, HsC, HO⟩
  sl_step
  unfold Done Idle
  isplitl [HhA HoA HhB HoB HhC HoC Hdone]
  · isplitl [HhA HoA]; · isplitl [HhA] <;> iassumption
    isplitl [HhB HoB]; · isplitl [HhB] <;> iassumption
    isplitl [HhC HoC]; · isplitl [HhC] <;> iassumption
    iexact Hdone
  isplitl [HbA HgA HsA]
  · isplitl [HbA]; · iexact HbA
    isplitl [HgA] <;> iassumption
  isplitl [HbB HgB HsB]
  · isplitl [HbB]; · iexact HbB
    isplitl [HgB] <;> iassumption
  isplitl [HbC HgC HsC]
  · isplitl [HbC]; · iexact HbC
    isplitl [HgC] <;> iassumption
  iexact HO

/-! ## The subcore's own buffers and semaphores -/

/-- The subcore's semaphore `r`. -/
abbrev cell (d : Dev nD) (L : grid0.Coords) (r : DmaSems sig S_) : GSem nD τ sig := (thr d L, .dma r.sem)

/-- Different semaphores are different cells. -/
theorem cell_ne {r r' : DmaSems sig S_} (h : r.sem ≠ r'.sem) : cell d L r ≠ cell d L r' := fun e =>
  h (by injection (congrArg Prod.snd e))

/-- The six semaphores of the ring are among the subcore's own. -/
theorem ownSems_split : ∃ R : sProp (MM F),
    (ownSems0 (thr d L) : sProp (MM F))
      = iprop(semVal (cell d L cc0_scratch3) 0 ∗ semVal (cell d L cc0_scratch4) 0 ∗ semVal (cell d L cc0_scratch5) 0
          ∗ semVal (cell d L cc0_scratch6) 0 ∗ semVal (cell d L cc0_scratch7) 0 ∗ semVal (cell d L cc0_scratch8) 0 ∗ R) := by
  refine ⟨bigSep (((((((ownCells (thr d L)).erase (cell d L cc0_scratch3)).erase (cell d L cc0_scratch4)).erase (cell d L cc0_scratch5)).erase
    (cell d L cc0_scratch6)).erase (cell d L cc0_scratch7)).erase (cell d L cc0_scratch8)) fun g => semVal g 0, ?_⟩
  have m3 : cell d L cc0_scratch3 ∈ ownCells (thr d L) := mem_ownCells.mpr ⟨rfl, by
    show (SemLoc.dma cc0_scratch3.sem : SemLoc sig).isScoped .scVector = true; decide⟩
  have m4 : cell d L cc0_scratch4 ∈ ownCells (thr d L) := mem_ownCells.mpr ⟨rfl, by
    show (SemLoc.dma cc0_scratch4.sem : SemLoc sig).isScoped .scVector = true; decide⟩
  have m5 : cell d L cc0_scratch5 ∈ ownCells (thr d L) := mem_ownCells.mpr ⟨rfl, by
    show (SemLoc.dma cc0_scratch5.sem : SemLoc sig).isScoped .scVector = true; decide⟩
  have m6 : cell d L cc0_scratch6 ∈ ownCells (thr d L) := mem_ownCells.mpr ⟨rfl, by
    show (SemLoc.dma cc0_scratch6.sem : SemLoc sig).isScoped .scVector = true; decide⟩
  have m7 : cell d L cc0_scratch7 ∈ ownCells (thr d L) := mem_ownCells.mpr ⟨rfl, by
    show (SemLoc.dma cc0_scratch7.sem : SemLoc sig).isScoped .scVector = true; decide⟩
  have m8 : cell d L cc0_scratch8 ∈ ownCells (thr d L) := mem_ownCells.mpr ⟨rfl, by
    show (SemLoc.dma cc0_scratch8.sem : SemLoc sig).isScoped .scVector = true; decide⟩
  unfold SparseCore.Cfg.ownSems0
  rw [SparseCore.bigSep_erase' m3,
    SparseCore.bigSep_erase' (Finset.mem_erase.mpr ⟨cell_ne d L (r := cc0_scratch4) (r' := cc0_scratch3) (by decide), m4⟩),
    SparseCore.bigSep_erase' (Finset.mem_erase.mpr ⟨cell_ne d L (r := cc0_scratch5) (r' := cc0_scratch4) (by decide),
      Finset.mem_erase.mpr ⟨cell_ne d L (r := cc0_scratch5) (r' := cc0_scratch3) (by decide), m5⟩⟩),
    SparseCore.bigSep_erase' (Finset.mem_erase.mpr ⟨cell_ne d L (r := cc0_scratch6) (r' := cc0_scratch5) (by decide),
      Finset.mem_erase.mpr ⟨cell_ne d L (r := cc0_scratch6) (r' := cc0_scratch4) (by decide),
      Finset.mem_erase.mpr ⟨cell_ne d L (r := cc0_scratch6) (r' := cc0_scratch3) (by decide), m6⟩⟩⟩),
    SparseCore.bigSep_erase' (Finset.mem_erase.mpr ⟨cell_ne d L (r := cc0_scratch7) (r' := cc0_scratch6) (by decide),
      Finset.mem_erase.mpr ⟨cell_ne d L (r := cc0_scratch7) (r' := cc0_scratch5) (by decide),
      Finset.mem_erase.mpr ⟨cell_ne d L (r := cc0_scratch7) (r' := cc0_scratch4) (by decide),
      Finset.mem_erase.mpr ⟨cell_ne d L (r := cc0_scratch7) (r' := cc0_scratch3) (by decide), m7⟩⟩⟩⟩),
    SparseCore.bigSep_erase' (Finset.mem_erase.mpr ⟨cell_ne d L (r := cc0_scratch8) (r' := cc0_scratch7) (by decide),
      Finset.mem_erase.mpr ⟨cell_ne d L (r := cc0_scratch8) (r' := cc0_scratch6) (by decide),
      Finset.mem_erase.mpr ⟨cell_ne d L (r := cc0_scratch8) (r' := cc0_scratch5) (by decide),
      Finset.mem_erase.mpr ⟨cell_ne d L (r := cc0_scratch8) (r' := cc0_scratch4) (by decide),
      Finset.mem_erase.mpr ⟨cell_ne d L (r := cc0_scratch8) (r' := cc0_scratch3) (by decide), m8⟩⟩⟩⟩⟩)]

/-- The ring's three buffers are among the subcore's own. -/
theorem ownBufs_split : ∃ R : sProp (MM F),
    (ownBufs (thr d L) : sProp (MM F))
      = iprop((∃ f, (thr d L).loc cc0_scratch0 ↦{fullShare} f) ∗ (∃ f, (thr d L).loc cc0_scratch1 ↦{fullShare} f)
          ∗ (∃ f, (thr d L).loc cc0_scratch2 ↦{fullShare} f) ∗ R) := by
  let p : Proc τ := Proc.scVector (cV L) (jV L)
  refine ⟨bigSep ((((ownRefs (τ := τ) p).erase (p.devRef cc0_scratch0)).erase (p.devRef cc0_scratch1)).erase (p.devRef cc0_scratch2))
    fun b => iprop(∃ f, ((d, b) : Loc nD τ sig) ↦{fullShare} f), ?_⟩
  have ne : ∀ {r r' : Ref sig .scVector}, r ≠ r' → p.devRef r ≠ p.devRef r' := fun h e => h (Proc.devRef_injective _ e)
  unfold SparseCore.Cfg.ownBufs
  refine (SparseCore.bigSep_erase' (SparseCore.Cfg.mem_ownRefs_of_owner (p := p) (b := p.devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := p) (b := p.devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := p) (b := p.devRef cc0_scratch2) rfl⟩⟩)]

/-- A buffer held whole is the slot's buffer at some contents. -/
theorem buf_any (s : Slot) (hs : s.b.view.set = Finset.univ) :
    iprop(∃ f, s.b.view.loc (thr d L) ↦{fullShare} f) = BufAny (F := F) d L s := by unfold BufAny; rw [hs]

/-- Each of the ring's buffers, held whole. -/
theorem buf0 : iprop(∃ f, (thr d L).loc cc0_scratch0 ↦{fullShare} f) = BufAny (F := F) d L s0 := buf_any d L s0 (View.set_whole _)
theorem buf1 : iprop(∃ f, (thr d L).loc cc0_scratch1 ↦{fullShare} f) = BufAny (F := F) d L s1 := buf_any d L s1 (View.set_whole _)
theorem buf2 : iprop(∃ f, (thr d L).loc cc0_scratch2 ↦{fullShare} f) = BufAny (F := F) d L s2 := buf_any d L s2 (View.set_whole _)

set_option maxHeartbeats 1000000 in
/-- The task of grid point `L`: it takes its 32 chunks untouched and leaves them done, its buffers at some contents and
    its semaphores at zero. -/
theorem tile_body (hF : (K (F := F)).Facts) (hO : ∀ g, O g none = 0) :
    iprop(levAts (K (F := F)).L (K (F := F)).lev ∗ emp ∗ bigSep (Finset.range 32) (Todo d L H z)
        ∗ scopedBufs (thr d L) ∗ scopedSems0 (thr d L) ∗ owes (thr d L) O W)
      ⊢ wp frame (wpE (defs₀ (F := F)) 𝒱₀ (thr d L) none) Set.univ
          (cc0__sc_body (F := F) L hV (Memref.isWhole_whole _) oV (Memref.isWhole_whole _) b0V (Memref.isWhole_whole _) b1V (Memref.isWhole_whole _)
            b2V (Memref.isWhole_whole _) cc0_scratch3 cc0_scratch4 cc0_scratch5 cc0_scratch6 cc0_scratch7 cc0_scratch8)
          fun _ => iprop(bigSep (Finset.range 32) (Done d L H z) ∗ scopedBufs (thr d L) ∗ scopedSems0 (thr d L)
            ∗ ∃ W', ⌜∀ p ∈ W', p ∈ W ∨ p.2 = none⌝ ∗ owes (thr d L) O W') := by
  obtain ⟨RS, hRS⟩ := ownSems_split (F := F) d L
  obtain ⟨RB, hRB⟩ := ownBufs_split (F := F) d L
  rw [(K (F := F)).scopedBufs_V hF d (cV L) (jV L), SparseCore.Cfg.scopedSems0_V (Val := Elt F) d (cV L) (jV L), hRS, hRB, buf0, buf1, buf2]
  simp only [cc0__sc_body_eq_skeleton]; unfold cc0__sc_body_skel
  iintro ⟨#Hlv, -, Htodo, ⟨Hb0, Hb1, Hb2, HRB⟩, ⟨Hg0, Hg1, Hg2, Ho0, Ho1, Ho2, HRS⟩, HO⟩
  ihave Hmw := (show levAts (K (F := F)).L (K (F := F)).lev ⊢ Transfers.MayWaits (thr d L) (default : HIx 1) O from
    (K (F := F)).mayWaits_none (thr := thr d L) hO) $$ Hlv
  iapply (Scf.wp_for_bind frame (wpE (defs₀ (F := F)) 𝒱₀ (thr d L) none) Set.univ _ _ _ _ _ _
    (fun j _ => INV d L H z O W j) (fun j u => trip d L H z O W j u)) $$ [Htodo Hb0 Hb1 Hb2 Hg0 Hg1 Hg2 Ho0 Ho1 Ho2 Hmw HO]
  · iapply (Entails.of_eq (INV_zero d L H z O W 0 rfl).symm)
    unfold RING
    rw [show stA d L H z 0 s2 = Idle (F := F) d L s2 from if_neg (by decide), show stB d L H z 0 s1 = Idle (F := F) d L s1 from if_neg (by decide),
      show stC d L H z 0 s0 = Idle (F := F) d L s0 from if_neg (by decide)]
    unfold Idle
    isplitl [Hb2 Hg2 Ho2]
    · isplitl [Hb2]; · iexact Hb2
      isplitl [Hg2]; · iexact Hg2
      iexact Ho2
    isplitl [Hb1 Hg1 Ho1]
    · isplitl [Hb1]; · iexact Hb1
      isplitl [Hg1]; · iexact Hg1
      iexact Ho1
    isplitl [Hb0 Hg0 Ho0]
    · isplitl [Hb0]; · iexact Hb0
      isplitl [Hg0]; · iexact Hg0
      iexact Ho0
    isplitl [Htodo]
    · rw [show Finset.Ico 0 32 = Finset.range 32 from rfl]; iexact Htodo
    isplitr
    · rw [show Finset.range (0 - 3) = ∅ from rfl, bigSep_empty]; iempintro
    isplitl [Hmw]; · iexact Hmw
    unfold Ow
    iexists W; isplitr
    · ipureintro; exact fun p hp => .inl hp
    · iexact HO
  iintro %u HI
  ihave HI := (Entails.of_eq (show INV d L H z O W k0_t1_loop.trips = RING d L H z O W 32 s1 s0 s2 by
    rw [trips_eq]; exact INV_two d L H z O W 32 rfl)) $$ HI
  iapply (wp_wand_r frame _ Set.univ)
  isplitl [HI]
  · iapply (after_loop d L H z O W s1 s0 s2 _ (off14_ch L) (k0_off15_inb L) (k0_off15_inb L) (k0_off15_inb L)) $$ HI
  iintro %v ⟨Hdone, H1, H0, H2, HO⟩
  unfold Idle
  icases H0 with ⟨Hb0, Hg0, Ho0⟩
  icases H1 with ⟨Hb1, Hg1, Ho1⟩
  icases H2 with ⟨Hb2, Hg2, Ho2⟩
  isplitl [Hdone]; · iexact Hdone
  isplitl [Hb0 Hb1 Hb2 HRB]
  · isplitl [Hb0]; · iexact Hb0
    isplitl [Hb1]; · iexact Hb1
    isplitl [Hb2]; · iexact Hb2
    iexact HRB
  isplitl [Hg0 Hg1 Hg2 Ho0 Ho1 Ho2 HRS]
  · isplitl [Hg0]; · iexact Hg0
    isplitl [Hg1]; · iexact Hg1
    isplitl [Hg2]; · iexact Hg2
    isplitl [Ho0]; · iexact Ho0
    isplitl [Ho1]; · iexact Ho1
    isplitl [Ho2]; · iexact Ho2
    iexact HRS
  unfold Ow; iexact HO

end Loop

end Cert.Proof.Copy

end
-- ==== Proof.Region.lean ====
/-
  The TensorCore call: it zeroes rows 32768 … 131072 of the output, block by block.

  The call is a pipeline over 48 points; at point `i` the body fills a 2048 × 1024 buffer with zeros, and the pipeline
  writes it over rows `2048 (i + 16) … + 2048` of the output. So the first 32768 rows stay, every later row ends zero.
-/
module

public import proofs.«01_k».proof.Proof.Common
public import proofs.«01_k».proof.Proof.Gen.KernelIdeal.Launch
public import proofs.«01_k».proof.Proof.Gen.KernelIdeal.Points
public import Idealize.ShloMosaic.Lib.Pipeline.Regions
public import Idealize.ShloMosaic.Lib.Pipeline.Value
public import Idealize.ShloMosaic.Lib.WritesUnit

@[expose] public section

set_option maxRecDepth 16384

noncomputable section

namespace Cert.Proof.Copy

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The zero the body stores. -/
abbrev zeroF : F .f32 := Scalar.ofBits .f32 0x00000000#32

/-- The body, on any whole buffer: it ends with the buffer holding zeros everywhere. -/
theorem zero_run (c : Dev nD) (i : grid1.Coords) (A1 : Memref sig .tc .hbm S131072x1024 .f32) (h1 : A1.IsWhole)
    (M : Memref sig .tc .vmem S2048x1024 .f32) (hM : M.IsWhole) (X : S2048x1024.Idx → Elt F .f32) (Q : PUnit → sProp (MM F)) :
    iprop(owns (c : Thread nD τ) M fullShare X ∗ (owns (c : Thread nD τ) M fullShare (fun _ => zeroF) -∗ Q ⟨⟩))
      ⊢ wp frame (wpE (defs₀ (F := F)) 𝒱₀ (c : Thread nD τ) none) Set.univ (cc1__tc_zero_body (F := F) i A1 h1 M hM) Q := by
  rw [cc1__tc_zero_body_eq_skeleton]
  unfold cc1__tc_zero_body_skel owns
  iintro ⟨⟨%f, %hf, H⟩, Hk⟩
  sl_exec
  sl_step
  iapply Hk
  iexists _
  isplitr; swap
  · iexact H
  ipureintro
  show M.view.read (Elt F) (M.view.writes (Elt F) f [⟨Rect.unit ![0, 0] S2048x1024.size inb_S2048x1024_S2048x1024_0_0, k1_pay1⟩]) = _
  funext y
  rw [View.read_writes_cons_unit_of_mem M.view f inb_S2048x1024_S2048x1024_0_0 (k1_pay1 (F := F)) [] y y (off' := fun _ => 0)
    (by funext a; match a with | 0 => rfl | 1 => rfl) (fun a => (Nat.zero_add _).symm)]
  rfl

/-- The result with its rows from 32768 on zeroed. -/
def tailZero (g : S131072x1024.Idx → F .f32) : S131072x1024.Idx → F .f32 := fun x => if (x 0).val < 32768 then g x else zeroF

/-- The pairs the TensorCore's waits may have recorded once the SparseCore call is over. -/
abbrev recd (d : Dev nD) : Set (SemLoc sig × HIx 1) := {p | (K (F := F)).lev ((T d : Thread nD τ), p.1) p.2 ≤ 8}

/-- The pipeline's proof data from result contents `g`: after the body the buffer is zero; nothing owed, no invariant. -/
def dat (g : S131072x1024.Idx → F .f32) (c : Dev nD) : Dat τ (Elt F) (HIx 1) ℕ UU ℕ cfg1 c where
  A w := match w with | ⟨0, _⟩ => g
  after w _ := match w with | ⟨0, _⟩ => fun _ => zeroF
  Φ _ := iprop(emp)
  q _ := fullShare
  owed _ := 0
  recorded _ := recd (F := F) c

abbrev adm : (p : Fin 1) → (pcfgs (F := F) p).Adm := fun p => (cfgs p).toPCfg_adm

def dats (g : Dev nD → S131072x1024.Idx → F .f32) : (p : Fin 1) → (c : Dev nD) → Dat τ (Elt F) (HIx 1) ℕ UU ℕ (Pipeline.pin (pcfgs (F := F)) adm p) c
  | ⟨0, _⟩ => fun c => dat (g c) c

/-- The body at every point: the buffer it is handed ends zero. -/
theorem body_obligation (g : S131072x1024.Idx → F .f32) (c : Dev nD) :
    BodyObligation (dat g c) (defs₀ (F := F)) 𝒱₀ (none : HIx 1) Set.univ := fun t => by
  rw [bigSep_W1, bigSep_W1]
  change iprop(emp ∗ (dat g c).owesAt none t.castSucc
      ∗ ∃ d, owns (c : Thread nD τ) (st1_0 t) fullShare ((dat g c).before 0 t d)) ⊢
    wp _ _ _ (bodyAt1 t) fun _ => iprop(emp ∗ (dat g c).owesAt none t.castSucc ∗ owns (c : Thread nD τ) (st1_0 t) fullShare (fun _ => zeroF))
  iintro ⟨HΦ, Howes, ⟨%d0, H0⟩⟩
  iapply (zero_run c _ _ _ _ (hstage1_0 ((cfg1.slots t 0).cast nbuf1_0)) _ _)
  isplitl [H0]; · iexact H0
  iintro H0
  isplitl [HΦ]; · iexact HΦ
  isplitl [Howes]; · iexact Howes
  iexact H0

/-- The block's row offset: point `t` writes block `t + 16`. -/
theorem index_val : ∀ t : Fin grid1.N, win1_0.index t 0 = t.val + 16 ∧ win1_0.index t 1 = 0 := by decide +kernel

/-- The elements of point `t`'s block: rows `2048 (t + 16) … + 2048`. -/
def blkRows (n : ℕ) : Finset S131072x1024.Idx := Finset.univ.filter fun x => (n + 16) * 2048 ≤ (x 0).val ∧ (x 0).val < (n + 16) * 2048 + 2048

/-- The elements of the block at point `t` are its 2048 rows. -/
theorem set_blk (t : Fin grid1.N) : ((cfg1.win 0).blk t).view.set = blkRows t.val := by
  show ((View.whole main_v2).slice (win1_0.rect t)).set = _
  rw [View.set_slice_whole]
  ext x
  rw [Rect.mem_set_unit]
  unfold blkRows
  rw [Finset.mem_filter]
  have hx : (x 1).val < 1024 := (x 1).isLt
  have h0 := (index_val t).1
  have h1 := (index_val t).2
  constructor
  · intro H
    have H0 : win1_0.index t 0 * 2048 ≤ (x 0).val ∧ (x 0).val < win1_0.index t 0 * 2048 + 2048 := H 0
    rw [h0] at H0
    exact ⟨Finset.mem_univ _, H0⟩
  · rintro ⟨-, H⟩ k
    match k with
    | 0 =>
      show win1_0.index t 0 * 2048 ≤ (x 0).val ∧ (x 0).val < win1_0.index t 0 * 2048 + 2048
      rw [h0]; exact H
    | 1 =>
      show win1_0.index t 1 * 1024 ≤ (x 1).val ∧ (x 1).val < win1_0.index t 1 * 1024 + 1024
      rw [h1]; omega

/-- The result after the call: its first 32768 rows as they were, the others zero. -/
theorem arrAt_final (g : S131072x1024.Idx → F .f32) (c : Dev nD) : (dat g c).arrAt 0 cfg1.N = tailZero g := by
  funext x
  have hx0 : (x 0).val < 131072 := (x 0).isLt
  rw [Dat.arrAt_eq_piecewise (dat g c) 0 (fun _ => zeroF) (fun t _ => rfl) x]
  unfold tailZero
  by_cases h : (x 0).val < 32768
  · rw [if_pos h, if_neg]
    · rfl
    · rintro ⟨t, -, ht⟩
      rw [set_blk t] at ht
      have e := (Finset.mem_filter.mp ht).2
      omega
  · rw [if_neg h, if_pos]
    have hN : cfg1.N = 48 := N_1
    refine ⟨⟨(x 0).val / 2048 - 16, by rw [hN]; omega⟩, flush1_0 _, ?_⟩
    rw [set_blk]
    refine Finset.mem_filter.mpr ⟨Finset.mem_univ _, ?_⟩
    dsimp only
    omega

/-! ## The call over the result's points-to -/

variable (g : Dev nD → S131072x1024.Idx → F .f32)

/-- The TensorCore's account of what it owes, after the SparseCore call: nothing, its recorded waits bounded. -/
abbrev owesT (d : Dev nD) : sProp (MM F) := iprop(∃ W, ⌜(K (F := F)).WBelow (T d) W 8⌝ ∗ owes (T d : Thread nD τ) (0 : CellTallies nD τ sig (HIx 1)) W)

set_option backward.isDefEq.respectTransparency.types false in
/-- The call as a region: entered with the result at `g`, left with its tail zeroed. -/
def reg : Pipeline.RegionSeg (pcfgs (F := F)) adm (dats g) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (g c) c).loose
  hwaits := Pipeline.hwaits_of_owed_zero _ _ _ _ (K (F := F)).L (K (F := F)).lev 0 fun _ _ => rfl
  pre c := iprop((rLoc c ↦{fullShare} g c) ∗ owesT c)
  post c := iprop((rLoc c ↦{fullShare} tailZero (g c)) ∗ owesT c)
  X _ := BI.emp
  Y _ := BI.emp
  Z _ := BI.emp
  hentry c := by
    rw [Pipeline.ownSems0_none]
    iintro ⟨⟨Hr, HO⟩, -, -⟩
    imodintro
    isplitl [Hr]
    · unfold Pipeline.Dat.arrays
      rw [bigSep_W1]
      rw [(arr_whole1 0).set_eq_univ]
      iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (dats g 0 c).Φ 0 = iprop(emp) from rfl]
    iintro ⟨-, -, Hr⟩
    iempintro
  hout c := by
    rw [Pipeline.ownSems0_none, show (dats g 0 c).Φ (Fin.last _) = iprop(emp) from rfl]
    rw [scopedRest1_eq]
    iintro -
    isplitr; · iempintro
    isplitr <;> iempintro
  hexit c := by
    iintro ⟨Ha, HO, -, -⟩
    imodintro
    isplitl [Ha]
    · iapply (Entails.of_eq (show ((dats g 0 c).arrays ((dats g 0 c).arrAt · cfg1.N) : sProp (MM F)) = (rLoc c ↦{fullShare} tailZero (g c)) by
        unfold Pipeline.Dat.arrays
        rw [bigSep_W1, (arr_whole1 0).set_eq_univ]
        show (rLoc c ↦{(dat (g c) c).share 0} (dat (g c) c).arrAt 0 cfg1.N : sProp (MM F)) = _
        rw [arrAt_final]
        rfl))
      iexact Ha
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

set_option backward.isDefEq.respectTransparency.types false in
/-- The call on device `d`'s TensorCore, as @main makes it. -/
theorem wp_zero (d : Dev nD) (Q : PUnit → sProp (MM F)) :
    iprop((iprop(boundary (T d : Thread nD τ) ∗ (rLoc d ↦{fullShare} tailZero (g d)) ∗ owesT d) -∗ Q ⟨⟩)
        ∗ boundary (T d : Thread nD τ) ∗ ((rLoc d ↦{fullShare} g d) ∗ owesT d) ∗ levAts (K (F := F)).L (K (F := F)).lev
        ∗ Pipeline.cellsGhost cfgs EP 0 d ∗ Pipeline.toksInit cfgs EP 0 d)
      ⊢ wp frame (wpE ((K (F := F)).defs (D (F := F))) 𝒱 (T d : Thread nD τ) none) Set.univ
          (Prog.lift (.customCall (SparseCore.inner (Pipeline.entry 0)) ())) Q := by
  have hl : SparseCore.liftProg (Q := 1) (.op (.customCall (Pipeline.entry 0) ()) fun _ => .ret ⟨⟩ :
        Prog (TpuEff nD τ sig (Elt F) (ΛP (F := F)) (.tc : Proc τ)) PUnit)
      = Prog.lift (.customCall (SparseCore.inner (Pipeline.entry 0)) ()) := rfl
  rw [← hl]
  have h2 := (K (F := F)).wp_liftProg (Name := ℕ) (U := UU) (N := 1) (D (F := F)) 𝒱 (T d : Thread nD τ) Set.univ none
    (.op (.customCall (Pipeline.entry 0) ()) fun _ => .ret ⟨⟩ : Prog (TpuEff nD τ sig (Elt F) (ΛP (F := F)) (.tc : Proc τ)) PUnit) Q
  refine BI.Entails.trans ?_ h2
  have h := (Pipeline.RegionSeg.wp (pcfgs (F := F)) adm (dats g) (none : HIx 1) cellOf_inj EP defs₀ 𝒱₀
    (K (F := F)).L (K (F := F)).lev (reg g) d none (fun _ h => nomatch h) (fun _ => .ret ⟨⟩) Q)
  refine BI.Entails.trans ?_ h
  change _ ⊢ (iprop((iprop(boundary (T d : Thread nD τ) ∗ ((rLoc d ↦{fullShare} tailZero (g d)) ∗ owesT d)) -∗ iprop(|={Set.univ}=> Q ⟨⟩))
    ∗ boundary (T d : Thread nD τ) ∗ ((rLoc d ↦{fullShare} g d) ∗ owesT d) ∗ levAts (K (F := F)).L (K (F := F)).lev
    ∗ Pipeline.cellsGhost cfgs EP 0 d ∗ Pipeline.toksInit cfgs EP 0 d) : sProp (MM F))
  iintro ⟨Hk, Hrest⟩
  isplitl [Hk]
  · iintro H
    imodintro
    iapply Hk
    iexact H
  iexact Hrest

end Cert.Proof.Copy

end
-- ==== Proof.Launch.lean ====
/-
  The whole program: the rows dealt to the subcores and joined, @main on the TensorCore, the run.

  @main flattens `hidden` to rows, starts the SparseCore call on them, copies the call's result into its own and has the
  TensorCore zero the rows from 32768 on. So its result is row `i` of the flattened `hidden` in row `i < 32768`, zero below.
-/
module

public import proofs.«01_k».proof.Proof.Tile
public import proofs.«01_k».proof.Proof.Region

@[expose] public section

set_option maxRecDepth 16384

noncomputable section

namespace Cert.Proof.Copy

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The subcores' rows -/

/-- Tile `i` of SparseCore `c` as a grid point. -/
def gridPt (c : Fin 2) (i : Fin 16) : grid0.Coords :=
  fun | 0 => c | 1 => i | ⟨_ + 2, h⟩ => absurd h (Nat.not_lt.2 (Nat.le_add_left _ _))

/-- The output's elements in rows `a … a + n`, and the flattened `hidden`'s. -/
def oBand (a n : ℕ) : Finset S131072x1024.Idx := Finset.univ.filter fun x => a ≤ (x 0).val ∧ (x 0).val < a + n
def hBand (a n : ℕ) : Finset S32768x1024.Idx := Finset.univ.filter fun x => a ≤ (x 0).val ∧ (x 0).val < a + n

/-- A row is among the `n` from `a` when it lies between `a` and `a + n`: of the output, then of `hidden`. -/
theorem mem_oBand {a n : ℕ} {x : S131072x1024.Idx} : x ∈ oBand a n ↔ a ≤ (x 0).val ∧ (x 0).val < a + n := by simp [oBand]
theorem mem_hBand {a n : ℕ} {x : S32768x1024.Idx} : x ∈ hBand a n ↔ a ≤ (x 0).val ∧ (x 0).val < a + n := by simp [hBand]

/-- The first row of tile `i` of SparseCore `c`. -/
abbrev base (c : Fin 2) (i : Fin 16) : ℕ := 2048 * i.val + 1024 * c.val

/-- A tile's chunk `t` starts 32 `t` rows after the tile's first row. -/
theorem row0_gridPt (c : Fin 2) (i : Fin 16) (t : ℕ) : row0 (gridPt c i) t = base c i + 32 * t := rfl

/-- A tile's 32 chunks are its 1024 rows, of the output and of the flattened `hidden`. -/
theorem oBand_chunks (c : Fin 2) (i : Fin 16) :
    (Finset.range 32).biUnion (fun t => oRows (row0 (gridPt c i) t)) = oBand (base c i) 1024 := by
  ext x
  simp only [Finset.mem_biUnion, Finset.mem_range, mem_oRows, mem_oBand, row0_gridPt]
  constructor
  · rintro ⟨t, ht, h⟩; omega
  · intro h; exact ⟨((x 0).val - base c i) / 32, by omega, by omega, by omega⟩
/-- A tile's 1024 rows of `hidden` are its 32 chunks. -/
theorem hBand_chunks (c : Fin 2) (i : Fin 16) :
    (Finset.range 32).biUnion (fun t => hRows (row0 (gridPt c i) t)) = hBand (base c i) 1024 := by
  ext x
  simp only [Finset.mem_biUnion, Finset.mem_range, mem_hRows, mem_hBand, row0_gridPt]
  constructor
  · rintro ⟨t, ht, h⟩; omega
  · intro h; exact ⟨((x 0).val - base c i) / 32, by omega, by omega, by omega⟩

/-- The 32 tiles' rows are rows `0 … 32768`. -/
theorem oBand_tiles : (Finset.univ : Finset (Fin 2 × Fin 16)).biUnion (fun p => oBand (base p.1 p.2) 1024) = oBand 0 32768 := by
  ext x
  simp only [Finset.mem_biUnion, Finset.mem_univ, true_and, mem_oBand]
  constructor
  · rintro ⟨⟨c, i⟩, h⟩
    have := c.isLt; have := i.isLt
    simp only [base] at h; omega
  · intro h
    refine ⟨(⟨(x 0).val / 1024 % 2, by omega⟩, ⟨(x 0).val / 2048, by omega⟩), ?_⟩
    simp only [base]; omega
/-- The tiles' rows of `hidden` are all of it. -/
theorem hBand_tiles : (Finset.univ : Finset (Fin 2 × Fin 16)).biUnion (fun p => hBand (base p.1 p.2) 1024) = Finset.univ := by
  ext x
  simp only [Finset.mem_biUnion, Finset.mem_univ, true_and, mem_hBand, iff_true]
  have h : (x 0).val < 32768 := (x 0).isLt
  refine ⟨(⟨(x 0).val / 1024 % 2, by omega⟩, ⟨(x 0).val / 2048, by omega⟩), ?_⟩
  simp only [base]; omega

/-- Two tiles' first rows are at least 1024 apart. -/
theorem base_apart {p p' : Fin 2 × Fin 16} (h : p ≠ p') : base p.1 p.2 + 1024 ≤ base p'.1 p'.2 ∨ base p'.1 p'.2 + 1024 ≤ base p.1 p.2 := by
  obtain ⟨c, i⟩ := p; obtain ⟨c', i'⟩ := p'
  have := c.isLt; have := c'.isLt; have := i.isLt; have := i'.isLt
  have hne : ¬ (c.val = c'.val ∧ i.val = i'.val) := fun e => h (Prod.ext (Fin.ext e.1) (Fin.ext e.2))
  simp only [base]; omega

variable (d : Dev nD) (H : Buf (Elt F) (hLoc d)) (f : Buf (Elt F) (oLoc d))

/-- One tile's rows of the output, of the flattened `hidden`: all at once or chunk by chunk. -/
theorem oTile_eq (c : Fin 2) (i : Fin 16) :
    (oLoc d ↦[oBand (base c i) 1024]{fullShare} f : sProp (MM F)) = bigSep (Finset.range 32) fun t => OC d (gridPt c i) t f := by
  unfold OC
  rw [← pointsTo_biUnion (ℓ := oLoc d) (Finset.range 32) (fun t => oRows (row0 (gridPt c i) t)) (fun t _ t' _ h => by
    rw [Finset.disjoint_left]; intro x h1 h2
    rw [mem_oRows, row0_gridPt] at h1 h2; omega), oBand_chunks]
/-- A tile's rows of `hidden`, held as one band, are its chunks held one by one. -/
theorem hTile_eq (c : Fin 2) (i : Fin 16) :
    (hLoc d ↦[hBand (base c i) 1024]{fullShare} H : sProp (MM F)) = bigSep (Finset.range 32) fun t => HC d (gridPt c i) H t := by
  unfold HC
  rw [← pointsTo_biUnion (ℓ := hLoc d) (Finset.range 32) (fun t => hRows (row0 (gridPt c i) t)) (fun t _ t' _ h => by
    rw [Finset.disjoint_left]; intro x h1 h2
    rw [mem_hRows, row0_gridPt] at h1 h2; omega), hBand_chunks]

/-- The flattened `hidden` and the output's first 32768 rows are what the 32 tiles' chunks hold together. -/
theorem deal :
    (bigSep Finset.univ fun c : Fin 2 => bigSep Finset.univ fun i : Fin 16 => bigSep (Finset.range 32) fun t =>
        iprop(HC d (gridPt c i) H t ∗ OC d (gridPt c i) t f) : sProp (MM F))
      = iprop((hLoc d ↦{fullShare} H) ∗ oLoc d ↦[oBand 0 32768]{fullShare} f) := by
  have e (c : Fin 2) (i : Fin 16) : (bigSep (Finset.range 32) fun t => iprop(HC d (gridPt c i) H t ∗ OC d (gridPt c i) t f) : sProp (MM F))
      = iprop((hLoc d ↦[hBand (base c i) 1024]{fullShare} H) ∗ oLoc d ↦[oBand (base c i) 1024]{fullShare} f) := by
    rw [bigSep_sep', ← hTile_eq, ← oTile_eq]
  simp only [e]
  rw [← bigSep_univ_prod (fun p : Fin 2 × Fin 16 =>
      (iprop((hLoc d ↦[hBand (base p.1 p.2) 1024]{fullShare} H) ∗ oLoc d ↦[oBand (base p.1 p.2) 1024]{fullShare} f) : sProp (MM F))),
    bigSep_sep',
    ← pointsTo_biUnion (ℓ := hLoc d) Finset.univ (fun p : Fin 2 × Fin 16 => hBand (base p.1 p.2) 1024) (fun p _ p' _ h => by
      rw [Finset.disjoint_left]; intro x h1 h2
      rw [mem_hBand] at h1 h2; have := base_apart h; omega),
    ← pointsTo_biUnion (ℓ := oLoc d) Finset.univ (fun p : Fin 2 × Fin 16 => oBand (base p.1 p.2) 1024) (fun p _ p' _ h => by
      rw [Finset.disjoint_left]; intro x h1 h2
      rw [mem_oBand] at h1 h2; have := base_apart h; omega), hBand_tiles, oBand_tiles]

/-! ## What the handshakes carry -/

section Main

variable (m : (ℓ : Loc nD τ sig) → Buf (Elt F) ℓ) (ρ : Dev nD → PrngReg)

/-- `hidden` flattened to rows. -/
def flat (d : Dev nD) : Buf (Elt F) (hLoc d) := shapeCast S32768x1024 (m (aLoc d)) shapeCasts_S16x2048x1024_S32768x1024

/-- The SparseCore call's result: the rows of `hidden` over what its buffer held. -/
abbrev scRes (d : Dev nD) : Buf (Elt F) (oLoc d) := copied (flat m d) (m (oLoc d))

/-- @main's result: that with the rows from 32768 on zero. -/
def mainRes (d : Dev nD) : Buf (Elt F) (rLoc d) := tailZero (scRes m d)

/-- The chunks tile `i` of SparseCore `c` is handed, and hands back. -/
def goTile (d : Dev nD) (c : Fin 2) (i : Fin 16) : sProp (MM F) := bigSep (Finset.range 32) (Todo d (gridPt c i) (flat m d) (m (oLoc d)))
def tdTile (d : Dev nD) (c : Fin 2) (i : Fin 16) : sProp (MM F) := bigSep (Finset.range 32) (Done d (gridPt c i) (flat m d) (m (oLoc d)))

/-- A SparseCore is handed its sixteen tiles' chunks, and hands them back copied. -/
def P : (K (F := F)).Pay (nD := nD) (Val := Elt F) (Name := ℕ) (U := UU) where
  st := fun q d c => match q with | 0 => bigSep Finset.univ fun i : Fin 16 => goTile m d (Fin.cast nCore_zero c) i
  dn := fun q d c => match q with | 0 => bigSep Finset.univ fun i : Fin 16 => tdTile m d (Fin.cast nCore_zero c) i
  go := fun q d c i => match q with | 0 => goTile m d (Fin.cast nCore_zero c) (Fin.cast nSub_zero i)
  td := fun q d c i => match q with | 0 => tdTile m d (Fin.cast nCore_zero c) (Fin.cast nSub_zero i)
  x := fun _ _ => iprop(emp)

instance goTile_storable (d c i) : BI.Storable (upEmb : UEmb _ (MM F)) (goTile m d c i) := by
  unfold goTile Todo HC OC; infer_instance
instance tdTile_storable (d c i) : BI.Storable (upEmb : UEmb _ (MM F)) (tdTile m d c i) := by
  unfold tdTile Done HC OC; infer_instance

instance P_storable : (P (F := F) m).IsStorable where
  st q d c := match q with
    | 0 => (inferInstance : BI.Storable (upEmb : UEmb _ (MM F)) (bigSep Finset.univ fun i : Fin 16 => goTile m d (Fin.cast nCore_zero c) i))
  dn q d c := match q with
    | 0 => (inferInstance : BI.Storable (upEmb : UEmb _ (MM F)) (bigSep Finset.univ fun i : Fin 16 => tdTile m d (Fin.cast nCore_zero c) i))
  go q d c i := match q with
    | 0 => goTile_storable m d (Fin.cast nCore_zero c) (Fin.cast nSub_zero i)
  td q d c i := match q with
    | 0 => tdTile_storable m d (Fin.cast nCore_zero c) (Fin.cast nSub_zero i)

/-- The call's body at tile `(c, s)`: the kernel at that grid point. -/
theorem defs₀_vector (c : Fin τ.nSC) (s : Fin τ.nSub) :
    defs₀ (F := F) (.scVector c s) 0 ()
      = SparseCore.onTile hcore0 hsub0 (fun c s => cc0__sc_body (gridPt c s)
          hV (Memref.isWhole_whole _) oV (Memref.isWhole_whole _) b0V (Memref.isWhole_whole _) b1V (Memref.isWhole_whole _) b2V (Memref.isWhole_whole _)
          cc0_scratch3 cc0_scratch4 cc0_scratch5 cc0_scratch6 cc0_scratch7 cc0_scratch8) ⟨⟩ c s := rfl

omit [FloatOps F] in
/-- The tasks' post says of each wait a little more than the obligation asks. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task, from its chunks to its chunks copied. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (gridPt ⟨_, hci.1⟩ ⟨_, hci.2⟩) (flat m d) (m (oLoc d)) O W scFacts hO).trans (wp_mono frame _ _ fun _ => obl_post)

/-- A conjunction over a SparseCore's tasks, and one over the SparseCores, by number. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- A SparseCore's chunks go to its tiles as they are, and come back so. -/
theorem vecSplit : (K (F := F)).VecSplit' (P m) 0 := by
  intro d c
  show (bigSep Finset.univ fun i : Fin 16 => goTile m d (Fin.cast nCore_zero c) i) ⊢ |={Set.univ}=> iprop(
      (bigSep Finset.univ fun i : Fin ((K (F := F)).nSub 0) => goTile m d (Fin.cast nCore_zero c) (Fin.cast nSub_zero i))
      ∗ ((bigSep Finset.univ fun i : Fin ((K (F := F)).nSub 0) => tdTile m d (Fin.cast nCore_zero c) (Fin.cast nSub_zero i))
          -∗ bigSep Finset.univ fun i : Fin 16 => tdTile m d (Fin.cast nCore_zero c) i))
  rw [bigSep_tasks (F := F) (fun i => goTile m d (Fin.cast nCore_zero c) i), bigSep_tasks (F := F) (fun i => tdTile m d (Fin.cast nCore_zero c) i)]
  iintro H; imodintro
  isplitl [H]; · iexact H
  iintro H; iexact H

/-- What the call takes: the flattened `hidden` and the output's first 32768 rows; what it gives: the same, copied. -/
theorem st0_eq (d : Dev nD) : (bigSep Finset.univ fun c : Fin ((K (F := F)).nCore 0) => (P m).st 0 d c)
    = iprop((hLoc d ↦{fullShare} flat m d) ∗ oLoc d ↦[oBand 0 32768]{fullShare} m (oLoc d)) := by
  show (bigSep Finset.univ fun c : Fin ((K (F := F)).nCore 0) => bigSep Finset.univ fun i : Fin 16 => goTile m d (Fin.cast nCore_zero c) i) = _
  rw [bigSep_cores (F := F) (fun c => bigSep Finset.univ fun i : Fin 16 => goTile m d c i), ← deal d (flat m d) (m (oLoc d))]
  unfold goTile Todo; rfl
/-- What the tiles hand back together. -/
theorem dn0_eq (d : Dev nD) : (bigSep Finset.univ fun c : Fin ((K (F := F)).nCore 0) => (P m).dn 0 d c)
    = iprop((hLoc d ↦{fullShare} flat m d) ∗ oLoc d ↦[oBand 0 32768]{fullShare} scRes m d) := by
  show (bigSep Finset.univ fun c : Fin ((K (F := F)).nCore 0) => bigSep Finset.univ fun i : Fin 16 => tdTile m d (Fin.cast nCore_zero c) i) = _
  rw [bigSep_cores (F := F) (fun c => bigSep Finset.univ fun i : Fin 16 => tdTile m d c i), ← deal d (flat m d) (scRes m d)]
  unfold tdTile Done; rfl

/-! ## The launch element of the certificate's ghost state -/

/-- The TensorCore call's staging cells and its transfers' tokens, what @main is dealt of them on each device. -/
abbrev G (d : Dev nD) : sProp (MM F) := iprop(Pipeline.cellsGhost cfgs EP 0 d ∗ Pipeline.toksInit cfgs EP 0 d)

def u₀ : UU := (initOf (K (F := F)).hsCells (K (F := F)).hsToks,
  (initOf (Pipeline.cells cfgs cellOf_inj) (Pipeline.launchToks cfgs cellOf_inj), 1))

omit [FloatOps F] in
/-- The launch element splits into the handshakes' and the TensorCore call's. -/
theorem ownU_split (a : UH) (b : UP) : (ownU ((a, (b, 1)) : UU) : sProp (MM F)) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem bigSep_emp' {I : Type} (s : Finset I) : (bigSep s fun _ => iprop(emp)) = (iprop(emp) : sProp (MM F)) := bigSep_emp_const s

/-- It deals the handshakes' launch state and, on each device, the TensorCore call's. -/
theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost cfgs (EP (F := F)) cellOf_inj) $$ HP with ⟨Hc, Ht⟩
  imodintro
  isplitl [HH]; · iexact HH
  isplitl [Hc Ht]
  · unfold G
    rw [bigSep_sep']
    isplitl [Hc]
    · iapply (Entails.of_eq (bigSep_congr fun d _ => bigSep_univ_of_subsingleton (Φ := fun p => Pipeline.cellsGhost cfgs (EP (F := F)) p d) (0 : Fin 1)))
      iexact Hc
    · iapply (Entails.of_eq (bigSep_congr fun d _ => bigSep_univ_of_subsingleton (Φ := fun p => Pipeline.toksInit cfgs (EP (F := F)) p d) (0 : Fin 1)))
      iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro

/-! ## @main on the TensorCore -/

abbrev a' : DevRef τ sig := Proc.devRef .tc (main_arg0 : Ref sig .tc)
abbrev b' : DevRef τ sig := Proc.devRef .tc (main_arg1 : Ref sig .tc)
abbrev h' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg0 main_v0 (rfl : (.f32 : EltTy) = .f32) shapeCasts_S16x2048x1024_S32768x1024
abbrev opCopy : HloOp τ sig (Elt F) := StableHlo.unary main_v1 main_v2 id

/-- The TensorCore's arrays, all unscoped: the arguments, the flattened `hidden`, the call's result, @main's. -/
abbrev S5 : Finset (DevRef τ sig) := {a', b', h', o', r'}

omit [FloatOps F] in
theorem held_S5 (d : Dev nD) (W : Valuation τ sig (Elt F)) :
    (held (T d) S5 W : sProp (MM F))
      = iprop((aLoc d ↦{fullShare} W a') ∗ (bLoc d ↦{fullShare} W b') ∗ (hLoc d ↦{fullShare} W h')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((aLoc d ↦{fullShare} W main_arg0) ∗ (bLoc d ↦{fullShare} W main_arg1) ∗ (hLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at launch, and once the SparseCore call is done. -/
def V0 (d : Dev nD) : Valuation τ sig (Elt F) := fun b => m (d, b)
def V2 (d : Dev nD) : Valuation τ sig (Elt F) := Function.update ((opFlat (F := F)).result (V0 m d)) o' (scRes m d)

/-- The program's arrays at the start, as the five arrays of @main. -/
theorem unscoped_held (d : Dev nD) : (unscopedBufs d (fun b => m ((SparseCore.T d).loc b)) : sProp (MM F)) = held (T d) S5 (V0 m d) := by
  rw [unscopedBufs_eq, held_S5]; rfl

/-- The reshape leaves the flattened `hidden` in its result and every other array as it was. -/
theorem flat_result (d : Dev nD) : (opFlat (F := F)).result (V0 m d) h' = flat m d :=
  StableHlo.reshape_result main_arg0 main_v0 _ _ _ _ (V0 m d)
theorem flat_other (d : Dev nD) {b : DevRef τ sig} (h : b ∉ ({h'} : Finset (DevRef τ sig))) : (opFlat (F := F)).result (V0 m d) b = m (d, b) :=
  (opFlat (F := F)).result_of_not_mem _ h

/-- The arrays before the SparseCore call, and after the copy of its result. -/
theorem held_V1 (d : Dev nD) :
    (held (T d) S5 ((opFlat (F := F)).result (V0 m d)) : sProp (MM F))
      = iprop((aLoc d ↦{fullShare} m (aLoc d)) ∗ (bLoc d ↦{fullShare} m (bLoc d)) ∗ (hLoc d ↦{fullShare} flat m d)
          ∗ (oLoc d ↦{fullShare} m (oLoc d)) ∗ rLoc d ↦{fullShare} m (rLoc d)) := by
  rw [held_S5, flat_result, flat_other m d (b := a') (by decide), flat_other m d (b := b') (by decide), flat_other m d (b := o') (by decide),
    flat_other m d (b := r') (by decide)]
/-- The five arrays after the SparseCore call, one by one. -/
theorem held_V2 (d : Dev nD) :
    (held (T d) S5 (V2 m d) : sProp (MM F))
      = iprop((aLoc d ↦{fullShare} m (aLoc d)) ∗ (bLoc d ↦{fullShare} m (bLoc d)) ∗ (hLoc d ↦{fullShare} flat m d)
          ∗ (oLoc d ↦{fullShare} scRes m d) ∗ rLoc d ↦{fullShare} m (rLoc d)) := by
  unfold V2
  rw [held_S5, Function.update_self, Function.update_of_ne (show a' ≠ o' by decide), Function.update_of_ne (show b' ≠ o' by decide),
    Function.update_of_ne (show h' ≠ o' by decide), Function.update_of_ne (show r' ≠ o' by decide),
    flat_result, flat_other m d (b := a') (by decide), flat_other m d (b := b') (by decide), flat_other m d (b := r') (by decide)]
/-- The five arrays after the copy into the result, one by one. -/
theorem held_V3 (d : Dev nD) :
    (held (T d) S5 ((opCopy (F := F)).result (V2 m d)) : sProp (MM F))
      = iprop((aLoc d ↦{fullShare} m (aLoc d)) ∗ (bLoc d ↦{fullShare} m (bLoc d)) ∗ (hLoc d ↦{fullShare} flat m d)
          ∗ (oLoc d ↦{fullShare} scRes m d) ∗ rLoc d ↦{fullShare} scRes m d) := by
  have e {b : DevRef τ sig} (h : b ∉ ({r'} : Finset (DevRef τ sig))) : (opCopy (F := F)).result (V2 m d) b = V2 m d b :=
    (opCopy (F := F)).result_of_not_mem _ h
  have er : (opCopy (F := F)).result (V2 m d) r' = scRes m d :=
    (StableHlo.unary_result main_v1 main_v2 _ _ _ _).trans (by unfold V2; rw [Function.update_self]; rfl)
  have h2 := held_V2 m d
  rw [held_S5] at h2
  rw [held_S5, er, e (b := a') (by decide), e (b := b') (by decide), e (b := h') (by decide), e (b := o') (by decide)]
  unfold V2
  rw [Function.update_self, Function.update_of_ne (show a' ≠ o' by decide), Function.update_of_ne (show b' ≠ o' by decide),
    Function.update_of_ne (show h' ≠ o' by decide),
    flat_result, flat_other m d (b := a') (by decide), flat_other m d (b := b') (by decide)]

/-- The arrays of @main's two host operations are among the five. -/
theorem hFlat : (opFlat (F := F)).bufs ⊆ S5 := show ({a', h'} : Finset (DevRef τ sig)) ⊆ S5 by decide
theorem hCopy : (opCopy (F := F)).bufs ⊆ S5 := show ({o', r'} : Finset (DevRef τ sig)) ⊆ S5 by decide

/-- The call's result whole: its first 32768 rows copied, the others as they were. -/
theorem oJoin (d : Dev nD) :
    iprop((oLoc d ↦[oBand 0 32768]{fullShare} scRes m d) ∗ oLoc d ↦[Finset.univ \ oBand 0 32768]{fullShare} m (oLoc d))
      ⊢ (oLoc d ↦{fullShare} scRes m d : sProp (MM F)) := by
  rw [pointsTo_congr (ℓ := oLoc d) (I := Finset.univ \ oBand 0 32768) (f := m (oLoc d)) (g := scRes m d) (fun x hx => by
    have hx' : ¬ (x ∈ oBand 0 32768) := (Finset.mem_sdiff.mp hx).2
    rw [mem_oBand] at hx'
    unfold scRes copied
    rw [dif_neg (by omega)])]
  exact (pointsTo_split_subset (ℓ := oLoc d) (I := oBand 0 32768) (S := Finset.univ) (Finset.subset_univ _)).2

/-- What @main owes once the SparseCore call is done is nothing; the record of its waits goes to the TensorCore call and back. -/
theorem tcSt_owes (d : Dev nD) : (K (F := F)).tcSt EH d 1 ⊢ iprop(owesT (F := F) d ∗ (owesT (F := F) d -∗ (K (F := F)).tcSt EH d 1)) := by
  have e : (K (F := F)).Otc d 1 = 0 := Finset.sum_eq_zero fun q _ => if_neg (by omega)
  unfold SparseCore.Cfg.tcSt owesT
  rw [e]
  iintro ⟨HO, HR⟩
  isplitl [HO]; · iexact HO
  iintro HO
  isplitl [HO]; · iexact HO
  iexact HR

/-- What @main leaves the claims: its arguments at their launch contents, its result. -/
abbrev FIN (d : Dev nD) : sProp (MM F) :=
  iprop((aLoc d ↦{fullShare} m (aLoc d)) ∗ (bLoc d ↦{fullShare} m (bLoc d)) ∗ rLoc d ↦{fullShare} mainRes m d)

/-- @main on device `d`'s TensorCore: `hidden` flattened, the SparseCore call from the rows, its result copied, the
    TensorCore call on the copy. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, ⟨Hgc, Hgt⟩⟩
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hm, Hh, Ho, Hr⟩
  ihave Ho := (pointsTo_split_subset (ℓ := oLoc d) (f := m (oLoc d)) (q := fullShare) (I := oBand 0 32768) (S := Finset.univ) (Finset.subset_univ _)).1 $$ Ho
  icases Ho with ⟨Ho, Ho'⟩
  iapply ((K (F := F)).wp_run (D (F := F)) 𝒱 (EH := EH) (P := P m) κ d 0) $$ [Hst Ha Hm Hh Ho Ho' Hr Hb Hts Hgc Hgt]
  isplitr; · iexact Hctx
  isplitl [Hst]; · iexact Hst
  isplitl [Hh Ho]
  · rw [st0_eq]
    isplitl [Hh]; · iexact Hh
    iexact Ho
  iintro ⟨Hst, Hdn⟩
  ihave Hdn' := (Entails.of_eq (dn0_eq m d)) $$ Hdn
  icases Hdn' with ⟨Hh, Ho⟩
  ihave Ho := (oJoin m d) $$ [Ho Ho']
  · isplitl [Ho] <;> iassumption
  iapply (wp_hlo_within 𝒱 (SparseCore.T d) none Set.univ (op := opCopy) (S := S5) hCopy (V := V2 m d)) $$ [Hb Ha Hm Hh Ho Hr]
  · isplitl [Hb]; · iexact Hb
    rw [held_V2]
    isplitl [Ha]; · iexact Ha
    isplitl [Hm]; · iexact Hm
    isplitl [Hh]; · iexact Hh
    isplitl [Ho]; · iexact Ho
    iexact Hr
  iintro ⟨Hb, Hheld⟩
  rw [wp_ret]; imodintro
  ihave Hh := (Entails.of_eq (held_V3 (F := F) m d)) $$ Hheld
  icases Hh with ⟨Ha, Hm, -, -, Hr⟩
  ihave Hst := (show (K (F := F)).tcSt EH d ((0 : Fin 1).val + 1) ⊢ iprop(owesT (F := F) d ∗ (owesT (F := F) d -∗ (K (F := F)).tcSt EH d 1))
    from tcSt_owes (F := F) d) $$ Hst
  icases Hst with ⟨HO, Hst⟩
  iapply (wp_zero (fun d => scRes m d) d) $$ [Hst Ha Hm Hr Hb Hts Hgc Hgt HO]
  isplitl [Hst Ha Hm Hts]
  · iintro ⟨Hb, Hr, HO⟩
    imodintro
    isplitl [Hst HO]
    · iapply Hst; iexact HO
    isplitl [Ha Hm Hr]
    · isplitl [Ha]; · iexact Ha
      isplitl [Hm]; · iexact Hm
      iexact Hr
    isplitl [Hb] <;> iassumption
  isplitl [Hb]; · iexact Hb
  isplitl [Hr HO]
  · isplitl [Hr] <;> iassumption
  isplitr
  · iapply ((K (F := F)).ctx_levAts κ); iexact Hctx
  isplitl [Hgc] <;> iassumption

/-- What the claims read of device `d`'s final state: the result, the arguments at their launch contents. -/
def fq (d : Dev nD) (s' : Phys nD τ sig (Elt F)) : Prop :=
  s'.mem.mem (rLoc d) = mainRes m d ∧ s'.mem.mem (aLoc d) = m (aLoc d) ∧ s'.mem.mem (bLoc d) = m (bLoc d)

/-- The final assertion says what the final memory holds. -/
theorem hfin (d : Dev nD) (s' : Phys nD τ sig (Elt F)) : iprop(FIN m d ∗ SI s') ⊢ (⌜fq m d s'⌝ : sProp (MM F)) := by
  iintro ⟨⟨Ha, Hm, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hm]
  · isplitl [HSI] <;> iassumption
  icases H with ⟨%hb, HSI, -⟩
  ihave H := (SI_pointsTo_agree (st := s') (ℓ := rLoc d) (I := Finset.univ) (q := fullShare) (f := mainRes m d)) $$ [HSI Hr]
  · isplitl [HSI] <;> iassumption
  icases H with %hr
  ipureintro
  exact ⟨funext fun i => hr i (Finset.mem_univ i), funext fun i => ha i (Finset.mem_univ i), funext fun i => hb i (Finset.mem_univ i)⟩

/-! ## The program's run -/

/-- Every final state: @main's result on each device, the arguments unchanged, every semaphore zero. -/
def QC : PUnit × MemSt nD τ sig (Elt F) → Prop := fun r =>
  (∀ c : Dev nD, r.2.mem (rLoc c) = mainRes m c ∧ r.2.mem (aLoc c) = m (aLoc c) ∧ r.2.mem (bLoc c) = m (bLoc c)) ∧ r.2.sem = fun _ => 0

/-- The program runs, from any launch memory, to such a state: for every reading `F` of the floats. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Main

end Cert.Proof.Copy

end
-- ==== Proof.Ref.lean ====
/-
  The reference's result, and the preconditions.

  The reference sets rows `arange(32768) % 131072` of `memory` to the rows of the flattened `hidden`. The index of update row
  `i` is `i` itself, so its result is row `i` of the flattened `hidden` in row `i < 32768` and `memory`'s own row below.
-/
module

public import proofs.«01_k».proof.Proof.Common
public import proofs.«01_k».proof.Proof.Gen.ReferenceIdeal.Run
public import proofs.«01_k».proof.Proof.Gen.Pre_memory_is_zero
public import proofs.«01_k».proof.Proof.Gen.Pre_memory_words_zero
public import Idealize.ShloMosaic.Lib.Routing.OpsSet
public import Idealize.ShloMosaic.Lib.Routing.OpsPair
public import Idealize.ShloMosaic.Lib.Routing.Words
public import Idealize.ShloMosaic.Lib.ReduceAll

@[expose] public section

set_option maxRecDepth 16384

noncomputable section

namespace Cert.Proof.Ref

open Cert.ReferenceIdeal Cert.ReferenceIdeal.Gen
open Idealize.ShloMosaic Idealize.ShloMosaic.Routing Idealize.SL.Sem
open Cert.Proof.Copy (hIdx copied)

/-! ## The index words -/

/-- The word of an `n < 32768` is not negative. -/
theorem slt_word {n : ℕ} (hn : n < 32768) : IntOp.cmpi .slt (BitVec.ofNat 32 n) 0#32 = 0#1 := by
  have h : (BitVec.ofNat 32 n).slt 0#32 = false := by
    rw [BitVec.slt_eq_decide, BitVec.toInt_eq_toNat_cond, BitVec.toNat_ofNat]
    simp; omega
  show BitVec.ofBool ((BitVec.ofNat 32 n).slt 0#32) = 0#1
  rw [h]; rfl
/-- The remainder of an `n < 32768` by 131072 is `n`. -/
theorem rem_word {n : ℕ} (hn : n < 32768) : IntOp.remsi .host (BitVec.ofNat 32 n) 131072#32 = BitVec.ofNat 32 n := by
  rw [show (131072#32) = BitVec.ofNat 32 131072 from rfl, remsi_word .host (by omega) (by decide) (by decide), Nat.mod_eq_of_lt (by omega)]

/-- The reference's index of row `n`: the remainder of `n` by `g`, with `g` added where the remainder is not zero and its sign
    is not `g`'s, then 131072 added where that is negative. At `g = 131072` and `n < 32768` neither is added: it is `n`. -/
theorem index_word {n : ℕ} (hn : n < 32768) (g : BitVec 32) (hg : g = 131072#32) :
    Scalar.select
      (IntOp.cmpi .slt
        (Scalar.select
          (IntOp.andi (IntOp.cmpi .ne (IntOp.cmpi .slt (IntOp.remsi .host (BitVec.ofNat 32 n) g) 0#32) (IntOp.cmpi .slt g 0#32))
            (IntOp.cmpi .ne (IntOp.remsi .host (BitVec.ofNat 32 n) g) 0#32))
          (IntOp.addi (IntOp.remsi .host (BitVec.ofNat 32 n) g) g) (IntOp.remsi .host (BitVec.ofNat 32 n) g))
        0#32)
      (IntOp.addi
        (Scalar.select
          (IntOp.andi (IntOp.cmpi .ne (IntOp.cmpi .slt (IntOp.remsi .host (BitVec.ofNat 32 n) g) 0#32) (IntOp.cmpi .slt g 0#32))
            (IntOp.cmpi .ne (IntOp.remsi .host (BitVec.ofNat 32 n) g) 0#32))
          (IntOp.addi (IntOp.remsi .host (BitVec.ofNat 32 n) g) g) (IntOp.remsi .host (BitVec.ofNat 32 n) g))
        131072#32)
      (Scalar.select
        (IntOp.andi (IntOp.cmpi .ne (IntOp.cmpi .slt (IntOp.remsi .host (BitVec.ofNat 32 n) g) 0#32) (IntOp.cmpi .slt g 0#32))
          (IntOp.cmpi .ne (IntOp.remsi .host (BitVec.ofNat 32 n) g) 0#32))
        (IntOp.addi (IntOp.remsi .host (BitVec.ofNat 32 n) g) g) (IntOp.remsi .host (BitVec.ofNat 32 n) g))
      = BitVec.ofNat 32 n := by
  have hand (v : BitVec 1) : IntOp.andi (IntOp.cmpi .ne (0#1) (0#1)) v = 0#1 := by revert v; decide
  have hsel (a b : BitVec 32) : Scalar.select 0#1 a b = b := rfl
  rw [hg, rem_word hn, slt_word hn, show IntOp.cmpi .slt (131072#32) 0#32 = 0#1 from by decide, hand, hsel, slt_word hn, hsel]

/-! ## The scatter -/

/-- A scatter of 32768 rows into 131072, update row `i` at index `i`: the updates' rows, then the operand's own. -/
theorem scatter_rows {α : Type} (x0 : S131072x1024.Idx → α) (idx : IVec S32768x1 32) (upd : S32768x1024.Idx → α)
    (hidx : ∀ j : S32768x1.Idx, idx j = BitVec.ofNat 32 (j 0).val) (ι : S131072x1024.Idx) :
    Host.scatter scatter_S131072x1024_S32768x1_S32768x1024_1_0_0_1 (fun _ b => b) x0 idx upd ι
      = if h : (ι 0).val < 32768 then upd (hIdx ⟨(ι 0).val, h⟩ (ι 1)) else x0 ι := by
  have hs0 (k : S32768x1024.Idx) : scatter_S131072x1024_S32768x1_S32768x1024_1_0_0_1.start k idx 0 = ((k 0).val : Int) := by
    have hk : (k 0).val < 32768 := (k 0).isLt
    refine Eq.trans (b := (BitVec.ofNat 32 (k 0).val).toInt) ?_ ?_
    · unfold ScatterDims.start
      rw [dif_pos (by decide), hidx]; rfl
    · rw [BitVec.toInt_eq_toNat_cond, BitVec.toNat_ofNat]
      split <;> omega
  have hs1 (k : S32768x1024.Idx) : scatter_S131072x1024_S32768x1_S32768x1024_1_0_0_1.start k idx 1 = 0 := by
    unfold ScatterDims.start
    rw [dif_neg (by decide)]
  have hw0 (k : S32768x1024.Idx) : scatter_S131072x1024_S32768x1_S32768x1024_1_0_0_1.window k 0 = 0 := by
    unfold ScatterDims.window
    rw [dif_neg (by decide)]
  have hw1 (k : S32768x1024.Idx) : scatter_S131072x1024_S32768x1_S32768x1024_1_0_0_1.window k 1 = (k 1).val := by
    unfold ScatterDims.window
    rw [dif_pos (by decide)]; rfl
  -- update `k` lands at its own row and column
  have lands (k : S32768x1024.Idx) : scatter_S131072x1024_S32768x1_S32768x1024_1_0_0_1.resultIdx? k idx = some ι
      ↔ (k 0).val = (ι 0).val ∧ (k 1).val = (ι 1).val := by
    rw [resultIdx?_eq_some]
    constructor
    · intro h
      have h0 := h 0; have h1 := h 1
      rw [hs0, hw0] at h0; rw [hs1, hw1] at h1
      omega
    · rintro ⟨h0, h1⟩ a
      match a with
      | 0 => show _ + ((ScatterDims.window _ k 0 : ℕ) : Int) = _; rw [hs0, hw0, h0]; simp
      | 1 => show _ + ((ScatterDims.window _ k 1 : ℕ) : Int) = _; rw [hs1, hw1, h1]; simp
  by_cases h : (ι 0).val < 32768
  · rw [dif_pos h]
    refine scatter_set_hit _ x0 idx upd ι _ (fun k hk => congrArg upd (funext fun a => Fin.ext ?_)) (hIdx ⟨(ι 0).val, h⟩ (ι 1)) ((lands _).2 ⟨rfl, rfl⟩)
    match a with
    | 0 => exact ((lands k).1 hk).1
    | 1 => exact ((lands k).1 hk).2
  · rw [dif_neg h]
    refine scatter_set_miss _ x0 idx upd ι fun k hk => h ?_
    rw [← ((lands k).1 hk).1]; exact (k 0).isLt

/-! ## The reference's result -/

variable {F : FTy → Type} [FloatOps F] (m : (ℓ : Loc nD τ sig) → Buf (Elt F) ℓ)

/-- The reference's result: the flattened `hidden`'s rows over `memory`. -/
theorem res_eq (c : Dev nD) :
    Value.res_main_v9 m c = copied (shapeCast S32768x1024 (m ((c.tc : Thread nD τ).loc main_arg0)) shapeCasts_S16x2048x1024_S32768x1024)
      (m ((c.tc : Thread nD τ).loc main_arg1)) := by
  unfold Value.res_main_v9
  funext ι
  refine scatter_rows _ _ _ (fun j => ?_) ι
  have hj : (j 0).val < 32768 := (j 0).isLt
  exact index_word hj _ (show Scalar.select (IntOp.cmpi .eq 131072#32 0#32) 1#32 131072#32 = 131072#32 from by decide)

/-! ## The preconditions -/

/-- `jnp.all(memory == 0)` read at the ideal numbers: every element of `memory` is zero. -/
theorem memory_of_is_zero (a : FVec Ideal S16x2048x1024 .f32) (x : FVec Ideal S131072x1024 .f32)
    (h : Cert.Pre_memory_is_zero.fn (F := Ideal) a x = fun _ => 1#1) (i : S131072x1024.Idx) : x i = Scalar.ofBits .f32 0x00000000#32 := by
  have h0 := congrFun h (fun k : Fin 0 => k.elim0)
  unfold Cert.Pre_memory_is_zero.fn at h0
  haveI : Subsingleton (Cert.Pre_memory_is_zero.S_).Idx := ⟨fun _ _ => funext fun k : Fin 0 => k.elim0⟩
  have h1 := Host.reduce_andi_all _ _ _ _ _ h0 i
  have h2 : BitVec.ofBool (decide (x i = Scalar.ofBits .f32 0x00000000#32)) = 1#1 := h1
  by_contra hne
  rw [decide_eq_false hne] at h2
  exact absurd h2 (by decide)

/-- `jnp.all` of `memory`'s words being zero, read at the words. -/
theorem memory_of_words_zero (a : FVec Bits S16x2048x1024 .f32) (x : FVec Bits S131072x1024 .f32)
    (h : Cert.Pre_memory_words_zero.fn (F := Bits) a x = fun _ => 1#1) (i : S131072x1024.Idx) : x i = Scalar.ofBits .f32 0x00000000#32 := by
  have h0 := congrFun h (fun k : Fin 0 => k.elim0)
  unfold Cert.Pre_memory_words_zero.fn at h0
  haveI : Subsingleton (Cert.Pre_memory_words_zero.S_).Idx := ⟨fun _ _ => funext fun k : Fin 0 => k.elim0⟩
  have h1 := Host.reduce_andi_all _ _ _ _ _ h0 i
  have h2 : BitVec.ofBool ((x i : BitVec 32) == 0#32) = 1#1 := h1
  have h3 : ((x i : BitVec 32) == 0#32) = true := by
    cases hb : ((x i : BitVec 32) == 0#32)
    · rw [hb] at h2; exact absurd h2 (by decide)
    · rfl
  exact (beq_iff_eq.mp h3).trans rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_memory_is_zero
public import proofs.«01_k».proof.Proof.Gen.Reference
public import proofs.«01_k».proof.Proof.Gen.Pre_memory_words_zero
public import proofs.«01_k».proof.Proof.Gen.ReferenceIdeal.Run
public import proofs.«01_k».proof.Proof.Gen.Reference.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem
open Cert.Proof.Copy (QC run_main mainRes copied tailZero zeroF flat)

/-! ## Runs -/

/-- The two prints of the kernel give every label of every processor the same body. -/
theorem bodies_eq : Cert.Kernel.defs₀ (F := Bits) = Cert.KernelIdeal.defs₀ (F := Bits) := by
  funext k ℓ a
  cases k with
  | tc => match ℓ, a with
    | 0, _ => rfl
    | 1, _ => rfl
  | scScalar c => match ℓ, a with
    | 0, _ => rfl
    | 1, _ => rfl
  | scVector c s => match ℓ, a with
    | 0, _ => rfl
    | 1, _ => rfl

/-- So their definitions, the launches and the pipeline over those bodies, are the same. -/
theorem defs_eq : Cert.Kernel.defs (F := Bits) = Cert.KernelIdeal.defs (F := Bits) :=
  congrArg (fun d => Cert.KernelIdeal.sc.defs (Pipeline.defs (Cert.KernelIdeal.pcfgs (F := Bits)) d)) bodies_eq

/-- The kernel as printed: from any memory, every execution ends in a state of `QC`. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (QC (F := Bits) m) := by
  rw [defs_eq]
  exact run_main (F := Bits) m ρ

/-- The kernel as printed: every execution ends with its arguments unchanged and every semaphore at zero. -/
theorem frame_kernel : Cert.quiescent_Kernel := fun m ρ _ =>
  (θ_run Cert.Kernel.defs _ _).mono (fun _ h => ⟨fun c => (h.1 c).2, h.2⟩) (run_kernel m ρ)

/-- The kernel at the ideal numbers: the same. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference at the ideal numbers: the same. It declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference as printed: the same. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- Rows copied over a `memory` of zeros are the rows copied over anything, then zeros from row 32768 on. -/
theorem copied_zero {F : FTy → Type} [FloatOps F] (H : Cert.KernelIdeal.S32768x1024.Idx → F .f32) (y z : Cert.KernelIdeal.S131072x1024.Idx → F .f32)
    (hz : ∀ i, z i = zeroF) : tailZero (copied H y) = copied H z := by
  funext x
  unfold tailZero copied
  by_cases h : (x 0).val < 32768
  · rw [if_pos h, dif_pos h, dif_pos h]
  · rw [if_neg h, dif_neg h, hz]

/-- The kernel's and the reference's results are equal at the ideal numbers where `memory` is zero. -/
theorem value_ideal : Cert.algebraic_KernelIdeal_ReferenceIdeal_pre_memory_is_zero := by
  intro m g m' g' hpre hargs
  refine ⟨fun c => mainRes (F := Ideal) m c, (θ_run Cert.KernelIdeal.defs _ _).mono (fun _ h => h.1) (run_main (F := Ideal) m g),
    (θ_run Cert.ReferenceIdeal.defs _ _).mono (fun r h c => ⟨(h c).1.trans ?_, (h c).2⟩) (Cert.ReferenceIdeal.Value.run (F := Ideal) m' g')⟩
  rw [Ref.res_eq, (hargs c).1, (hargs c).2]
  exact (copied_zero _ _ _ (Ref.memory_of_is_zero _ _ (hpre c))).symm

/-- The kernel's and the reference's results are the same words where `memory`'s words are zero. -/
theorem value_words : Cert.bitexact_Kernel_Reference_pre_memory_words_zero := by
  intro m g m' g' hpre hargs
  refine ⟨fun c => mainRes (F := Bits) m c, (θ_run Cert.Kernel.defs _ _).mono (fun _ h => h.1) (run_kernel m g),
    (θ_run Cert.Reference.defs _ _).mono (fun r h c => ⟨(h c).1.trans ?_, (h c).2⟩) (Cert.Reference.Value.run (F := Bits) m' g')⟩
  refine (Ref.res_eq (F := Bits) m' c).trans ?_
  refine Eq.trans ?_ (copied_zero _ _ _ (Ref.memory_of_words_zero _ _ (hpre c))).symm
  exact congrArg₂ (fun a b => copied (shapeCast _ a Cert.ReferenceIdeal.Gen.shapeCasts_S16x2048x1024_S32768x1024) b) (hargs c).1 (hargs c).2

/-- All the claims. -/
theorem claim : Cert.Claim :=
  ⟨Cert.Kernel.Gen.facts, Cert.KernelIdeal.Gen.facts, Cert.ReferenceIdeal.Gen.facts, Cert.Reference.Gen.facts, Cert.Pre_memory_words_zero.Gen.facts,
    Cert.Pre_memory_is_zero.Gen.facts, frame_kernel, fun m ρ _ => frame_kernel m ρ trivial, frame_kernelIdeal, fun m ρ _ => frame_kernelIdeal m ρ trivial,
    frame_referenceIdeal, fun m ρ _ => frame_referenceIdeal m ρ trivial, frame_reference, trivial, value_words, value_ideal⟩

end Cert.Proof

end
